-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 6144]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![6144, 1536]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S3x256x1536 : Shape := ⟨3, ![3, 256, 1536]⟩
abbrev S3x128x1536 : Shape := ⟨3, ![3, 128, 1536]⟩
abbrev S3x64x1536 : Shape := ⟨3, ![3, 64, 1536]⟩
abbrev S3x3 : Shape := ⟨2, ![3, 3]⟩
abbrev S_ : Shape := ⟨0, ![]⟩
abbrev S256x768 : Shape := ⟨2, ![256, 768]⟩
abbrev S256x1536 : Shape := ⟨2, ![256, 1536]⟩
abbrev S1x256x1536 : Shape := ⟨3, ![1, 256, 1536]⟩
abbrev S1x1 : Shape := ⟨2, ![1, 1]⟩
abbrev S128x1536 : Shape := ⟨2, ![128, 1536]⟩
abbrev S1x128x1536 : Shape := ⟨3, ![1, 128, 1536]⟩
abbrev S64x1536 : Shape := ⟨2, ![64, 1536]⟩
abbrev S1x64x1536 : Shape := ⟨3, ![1, 64, 1536]⟩

abbrev nBuf : Space → Nat
  | .hbm => 3
  | .vmem => 10
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S3x256x1536, .bf16⟩
  | .local _ .vmem, ⟨4, _⟩ => ⟨S3x128x1536, .bf16⟩
  | .local _ .vmem, ⟨5, _⟩ => ⟨S3x64x1536, .bf16⟩
  | .local _ .vmem, ⟨6, _⟩ => ⟨S3x256x1536, .bf16⟩
  | .local _ .vmem, ⟨7, _⟩ => ⟨S3x128x1536, .bf16⟩
  | .local _ .vmem, ⟨8, _⟩ => ⟨S3x64x1536, .bf16⟩
  | .local _ .vmem, ⟨9, _⟩ => ⟨S1536x1536, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v10 : BitVec 32 := Scalar.xori v2 c1_i32_4
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_8 : BitVec 32 := 1#32
  let v14 : BitVec 32 := Scalar.muli v13 c1_i32_8
  let v15 : BitVec 32 := Scalar.addi c0_i32_9 v14
  v15.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.xori v2 c4_i32
  let c1_i32_11 : BitVec 32 := 1#32
  let v17 : BitVec 32 := Scalar.muli v16 c1_i32_11
  let v18 : BitVec 32 := Scalar.addi c0_i32_12 v17
  v18.toNat
def k0_off1 (d0 : Dev nD) : Fin 2 → Nat :=
  let c0_i32_15 : BitVec 32 := 0#32
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v19 : BitVec 32 := Scalar.subi c1_i32_14 v8
  let c256_i32 : BitVec 32 := 256#32
  let v20 : BitVec 32 := Scalar.muli v19 c256_i32
  let v21 : BitVec 32 := Scalar.addi c0_i32_15 v20
  let v22 : Index := Scalar.indexCast v21
  let c0 : Index := 0#32
  ![v22.toNat, 0]
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v32 : BitVec 32 := Scalar.xori v2 c1_i32_21
  let c1_i32_28 : BitVec 32 := 1#32
  let v33 : BitVec 32 := Scalar.muli v32 c1_i32_28
  let v34 : BitVec 32 := Scalar.addi c0_i32_29 v33
  v34.toNat
def k0_off2 (d0 : Dev nD) (c512_i32 : BitVec 32) (c1_i32_1 : BitVec 32) : Fin 2 → Nat :=
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let v45 : BitVec 32 := Scalar.subi c1_i32_36 v5
  let c256_i32_37 : BitVec 32 := 256#32
  let v46 : BitVec 32 := Scalar.muli v45 c256_i32_37
  let v47 : BitVec 32 := Scalar.addi c512_i32 v46
  let v48 : Index := Scalar.indexCast v47
  let c0_38 : Index := 0#32
  ![v48.toNat, 0]
def k0_off2_at (r : Fin 2) : BitVec 32 × BitVec 32 :=
  if r.val < 1 then
    (512#32, 1#32)
  else
    (1024#32, 2#32)
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_44 : BitVec 32 := 3#32
  let v58 : BitVec 32 := Scalar.xori v2 c3_i32_44
  let c1_i32_51 : BitVec 32 := 1#32
  let v59 : BitVec 32 := Scalar.muli v58 c1_i32_51
  let v60 : BitVec 32 := Scalar.addi c0_i32_52 v59
  v60.toNat
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v84 : BitVec 32 := Scalar.xori v2 c4_i32_67
  let c1_i32_74 : BitVec 32 := 1#32
  let v85 : BitVec 32 := Scalar.muli v84 c1_i32_74
  let v86 : BitVec 32 := Scalar.addi c0_i32_75 v85
  v86.toNat
def k0_off3 (d0 : Dev nD) : Fin 2 → Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c256_i32_34 : BitVec 32 := 256#32
  let v43 : BitVec 32 := Scalar.muli v8 c256_i32_34
  let v44 : BitVec 32 := Scalar.addi c0_i32_35 v43
  let v97 : Index := Scalar.indexCast v44
  let c0_82 : Index := 0#32
  ![v97.toNat, 0]
def k0_off4 (d0 : Dev nD) : Fin 2 → Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c256_i32_34 : BitVec 32 := 256#32
  let v43 : BitVec 32 := Scalar.muli v8 c256_i32_34
  let v44 : BitVec 32 := Scalar.addi c0_i32_35 v43
  let v103 : Index := Scalar.indexCast v44
  let c0_86 : Index := 0#32
  ![v103.toNat, 0]
def k0_off5 (d0 : Dev nD) (c512_i32_58 : BitVec 32) (c1_i32_1 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c256_i32_57 : BitVec 32 := 256#32
  let v69 : BitVec 32 := Scalar.muli v5 c256_i32_57
  let v70 : BitVec 32 := Scalar.addi c512_i32_58 v69
  let v105 : Index := Scalar.indexCast v70
  let c0_87 : Index := 0#32
  ![v105.toNat, 0]
def k0_off5_at (r : Fin 2) : BitVec 32 × BitVec 32 :=
  if r.val < 1 then
    (512#32, 1#32)
  else
    (1024#32, 2#32)
def k0_off6 (d0 : Dev nD) (c512_i32_58 : BitVec 32) (c1_i32_1 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let c256_i32_57 : BitVec 32 := 256#32
  let v69 : BitVec 32 := Scalar.muli v5 c256_i32_57
  let v70 : BitVec 32 := Scalar.addi c512_i32_58 v69
  let v111 : Index := Scalar.indexCast v70
  let c0_91 : Index := 0#32
  ![v111.toNat, 0]
def k0_off6_at (r : Fin 2) : BitVec 32 × BitVec 32 :=
  if r.val < 1 then
    (512#32, 1#32)
  else
    (1024#32, 2#32)
def k0_off7 (d0 : Dev nD) : Fin 2 → Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c256_i32_34 : BitVec 32 := 256#32
  let v43 : BitVec 32 := Scalar.muli v8 c256_i32_34
  let v44 : BitVec 32 := Scalar.addi c0_i32_35 v43
  let c1_i32_124 : BitVec 32 := 1#32
  let v144 : BitVec 32 := Scalar.subi c1_i32_124 v5
  let c128_i32_125 : BitVec 32 := 128#32
  let v145 : BitVec 32 := Scalar.muli v144 c128_i32_125
  let v146 : BitVec 32 := Scalar.addi v44 v145
  let v149 : Index := Scalar.indexCast v146
  let c0_127 : Index := 0#32
  ![v149.toNat, 0]
def k0_dev7 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_131 : BitVec 32 := 3#32
  let v156 : BitVec 32 := Scalar.xori v2 c3_i32_131
  let c1_i32_138 : BitVec 32 := 1#32
  let v157 : BitVec 32 := Scalar.muli v156 c1_i32_138
  let v158 : BitVec 32 := Scalar.addi c0_i32_139 v157
  v158.toNat
def k0_off8 (d0 : Dev nD) : Fin 2 → Nat :=
  let c512_i32_58 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c256_i32_57 : BitVec 32 := 256#32
  let v69 : BitVec 32 := Scalar.muli v5 c256_i32_57
  let v70 : BitVec 32 := Scalar.addi c512_i32_58 v69
  let c1_i32_172 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v190 : BitVec 32 := Scalar.subi c1_i32_172 v7
  let c128_i32_173 : BitVec 32 := 128#32
  let v191 : BitVec 32 := Scalar.muli v190 c128_i32_173
  let v192 : BitVec 32 := Scalar.addi v70 v191
  let v195 : Index := Scalar.indexCast v192
  let c0_175 : Index := 0#32
  ![v195.toNat, 0]
def k0_dev8 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_179 : BitVec 32 := 4#32
  let v202 : BitVec 32 := Scalar.xori v2 c4_i32_179
  let c1_i32_186 : BitVec 32 := 1#32
  let v203 : BitVec 32 := Scalar.muli v202 c1_i32_186
  let v204 : BitVec 32 := Scalar.addi c0_i32_187 v203
  v204.toNat
def k0_off9 (d0 : Dev nD) : Fin 2 → Nat :=
  let c1024_i32_81 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c256_i32_80 : BitVec 32 := 256#32
  let v95 : BitVec 32 := Scalar.muli v7 c256_i32_80
  let v96 : BitVec 32 := Scalar.addi c1024_i32_81 v95
  let c1_i32_220 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v236 : BitVec 32 := Scalar.subi c1_i32_220 v8
  let c128_i32_221 : BitVec 32 := 128#32
  let v237 : BitVec 32 := Scalar.muli v236 c128_i32_221
  let v238 : BitVec 32 := Scalar.addi v96 v237
  let v241 : Index := Scalar.indexCast v238
  let c0_223 : Index := 0#32
  ![v241.toNat, 0]
def k0_dev9 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_227 : BitVec 32 := 1#32
  let v248 : BitVec 32 := Scalar.xori v2 c1_i32_227
  let c1_i32_234 : BitVec 32 := 1#32
  let v249 : BitVec 32 := Scalar.muli v248 c1_i32_234
  let v250 : BitVec 32 := Scalar.addi c0_i32_235 v249
  v250.toNat
def k0_off10 (d0 : Dev nD) : Fin 2 → Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c256_i32_34 : BitVec 32 := 256#32
  let v43 : BitVec 32 := Scalar.muli v8 c256_i32_34
  let v44 : BitVec 32 := Scalar.addi c0_i32_35 v43
  let c128_i32 : BitVec 32 := 128#32
  let v142 : BitVec 32 := Scalar.muli v5 c128_i32
  let v143 : BitVec 32 := Scalar.addi v44 v142
  let v273 : Index := Scalar.indexCast v143
  let c0_263 : Index := 0#32
  ![v273.toNat, 0]
def k0_off11 (d0 : Dev nD) : Fin 2 → Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c256_i32_34 : BitVec 32 := 256#32
  let v43 : BitVec 32 := Scalar.muli v8 c256_i32_34
  let v44 : BitVec 32 := Scalar.addi c0_i32_35 v43
  let c128_i32 : BitVec 32 := 128#32
  let v142 : BitVec 32 := Scalar.muli v5 c128_i32
  let v143 : BitVec 32 := Scalar.addi v44 v142
  let c1_i32_267 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v282 : BitVec 32 := Scalar.subi c1_i32_267 v7
  let c64_i32_268 : BitVec 32 := 64#32
  let v283 : BitVec 32 := Scalar.muli v282 c64_i32_268
  let v284 : BitVec 32 := Scalar.addi v143 v283
  let v287 : Index := Scalar.indexCast v284
  let c0_270 : Index := 0#32
  ![v287.toNat, 0]
def k0_dev10 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_274 : BitVec 32 := 4#32
  let v294 : BitVec 32 := Scalar.xori v2 c4_i32_274
  let c1_i32_281 : BitVec 32 := 1#32
  let v295 : BitVec 32 := Scalar.muli v294 c1_i32_281
  let v296 : BitVec 32 := Scalar.addi c0_i32_282 v295
  v296.toNat
def k0_off12 (d0 : Dev nD) : Fin 2 → Nat :=
  let c512_i32_58 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c256_i32_57 : BitVec 32 := 256#32
  let v69 : BitVec 32 := Scalar.muli v5 c256_i32_57
  let v70 : BitVec 32 := Scalar.addi c512_i32_58 v69
  let c2_i32 : BitVec 32 := 2#32
  let v6 : BitVec 32 := Scalar.shrsi v2 c2_i32
  let c1_i32_3 : BitVec 32 := 1#32
  let v7 : BitVec 32 := Scalar.andi v6 c1_i32_3
  let c128_i32_171 : BitVec 32 := 128#32
  let v188 : BitVec 32 := Scalar.muli v7 c128_i32_171
  let v189 : BitVec 32 := Scalar.addi v70 v188
  let v319 : Index := Scalar.indexCast v189
  let c0_310 : Index := 0#32
  ![v319.toNat, 0]
def k0_off13 (d0 : Dev nD) : Fin 2 → Nat :=
  let c512_i32_58 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c256_i32_57 : BitVec 32 := 256#32
  let v69 : BitVec 32 := Scalar.muli v5 c256_i32_57
  let v70 : BitVec 32 := Scalar.addi c512_i32_58 v69
  let c2_i32 : BitVec 32 := 2#32
  let v6 : BitVec 32 := Scalar.shrsi v2 c2_i32
  let c1_i32_3 : BitVec 32 := 1#32
  let v7 : BitVec 32 := Scalar.andi v6 c1_i32_3
  let c128_i32_171 : BitVec 32 := 128#32
  let v188 : BitVec 32 := Scalar.muli v7 c128_i32_171
  let v189 : BitVec 32 := Scalar.addi v70 v188
  let c1_i32_315 : BitVec 32 := 1#32
  let c1_i32_0 : BitVec 32 := 1#32
  let v3 : BitVec 32 := Scalar.andi v2 c1_i32_0
  let v8 : BitVec 32 := Scalar.xori v3 v5
  let v328 : BitVec 32 := Scalar.subi c1_i32_315 v8
  let c64_i32_316 : BitVec 32 := 64#32
  let v329 : BitVec 32 := Scalar.muli v328 c64_i32_316
  let v330 : BitVec 32 := Scalar.addi v189 v329
  let v333 : Index := Scalar.indexCast v330
  let c0_318 : Index := 0#32
  ![v333.toNat, 0]
def k0_dev11 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_322 : BitVec 32 := 1#32
  let v340 : BitVec 32 := Scalar.xori v2 c1_i32_322
  let c1_i32_329 : BitVec 32 := 1#32
  let v341 : BitVec 32 := Scalar.muli v340 c1_i32_329
  let v342 : BitVec 32 := Scalar.addi c0_i32_330 v341
  v342.toNat
def k0_off14 (d0 : Dev nD) : Fin 2 → Nat :=
  let c1024_i32_81 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c256_i32_80 : BitVec 32 := 256#32
  let v95 : BitVec 32 := Scalar.muli v7 c256_i32_80
  let v96 : BitVec 32 := Scalar.addi c1024_i32_81 v95
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32_219 : BitVec 32 := 128#32
  let v234 : BitVec 32 := Scalar.muli v8 c128_i32_219
  let v235 : BitVec 32 := Scalar.addi v96 v234
  let v365 : Index := Scalar.indexCast v235
  let c0_358 : Index := 0#32
  ![v365.toNat, 0]
def k0_off15 (d0 : Dev nD) : Fin 2 → Nat :=
  let c1024_i32_81 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c256_i32_80 : BitVec 32 := 256#32
  let v95 : BitVec 32 := Scalar.muli v7 c256_i32_80
  let v96 : BitVec 32 := Scalar.addi c1024_i32_81 v95
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32_219 : BitVec 32 := 128#32
  let v234 : BitVec 32 := Scalar.muli v8 c128_i32_219
  let v235 : BitVec 32 := Scalar.addi v96 v234
  let c1_i32_363 : BitVec 32 := 1#32
  let v374 : BitVec 32 := Scalar.subi c1_i32_363 v5
  let c64_i32_364 : BitVec 32 := 64#32
  let v375 : BitVec 32 := Scalar.muli v374 c64_i32_364
  let v376 : BitVec 32 := Scalar.addi v235 v375
  let v379 : Index := Scalar.indexCast v376
  let c0_366 : Index := 0#32
  ![v379.toNat, 0]
def k0_dev12 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_370 : BitVec 32 := 3#32
  let v386 : BitVec 32 := Scalar.xori v2 c3_i32_370
  let c1_i32_377 : BitVec 32 := 1#32
  let v387 : BitVec 32 := Scalar.muli v386 c1_i32_377
  let v388 : BitVec 32 := Scalar.addi c0_i32_378 v387
  v388.toNat
def k0_off16 (d0 : Dev nD) : Fin 2 → Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c256_i32_34 : BitVec 32 := 256#32
  let v43 : BitVec 32 := Scalar.muli v8 c256_i32_34
  let v44 : BitVec 32 := Scalar.addi c0_i32_35 v43
  let c128_i32 : BitVec 32 := 128#32
  let v142 : BitVec 32 := Scalar.muli v5 c128_i32
  let v143 : BitVec 32 := Scalar.addi v44 v142
  let c2_i32 : BitVec 32 := 2#32
  let v6 : BitVec 32 := Scalar.shrsi v2 c2_i32
  let c1_i32_3 : BitVec 32 := 1#32
  let v7 : BitVec 32 := Scalar.andi v6 c1_i32_3
  let c64_i32 : BitVec 32 := 64#32
  let v280 : BitVec 32 := Scalar.muli v7 c64_i32
  let v281 : BitVec 32 := Scalar.addi v143 v280
  let v411 : Index := Scalar.indexCast v281
  let c0_406 : Index := 0#32
  ![v411.toNat, 0]
def k0_off17 (d0 : Dev nD) : Fin 2 → Nat :=
  let c512_i32_58 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c256_i32_57 : BitVec 32 := 256#32
  let v69 : BitVec 32 := Scalar.muli v5 c256_i32_57
  let v70 : BitVec 32 := Scalar.addi c512_i32_58 v69
  let c2_i32 : BitVec 32 := 2#32
  let v6 : BitVec 32 := Scalar.shrsi v2 c2_i32
  let c1_i32_3 : BitVec 32 := 1#32
  let v7 : BitVec 32 := Scalar.andi v6 c1_i32_3
  let c128_i32_171 : BitVec 32 := 128#32
  let v188 : BitVec 32 := Scalar.muli v7 c128_i32_171
  let v189 : BitVec 32 := Scalar.addi v70 v188
  let c1_i32_0 : BitVec 32 := 1#32
  let v3 : BitVec 32 := Scalar.andi v2 c1_i32_0
  let v8 : BitVec 32 := Scalar.xori v3 v5
  let c64_i32_314 : BitVec 32 := 64#32
  let v326 : BitVec 32 := Scalar.muli v8 c64_i32_314
  let v327 : BitVec 32 := Scalar.addi v189 v326
  let v450 : Index := Scalar.indexCast v327
  let c0_438 : Index := 0#32
  ![v450.toNat, 0]
def k0_off18 (d0 : Dev nD) : Fin 2 → Nat :=
  let c1024_i32_81 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c256_i32_80 : BitVec 32 := 256#32
  let v95 : BitVec 32 := Scalar.muli v7 c256_i32_80
  let v96 : BitVec 32 := Scalar.addi c1024_i32_81 v95
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32_219 : BitVec 32 := 128#32
  let v234 : BitVec 32 := Scalar.muli v8 c128_i32_219
  let v235 : BitVec 32 := Scalar.addi v96 v234
  let c64_i32_362 : BitVec 32 := 64#32
  let v372 : BitVec 32 := Scalar.muli v5 c64_i32_362
  let v373 : BitVec 32 := Scalar.addi v235 v372
  let v489 : Index := Scalar.indexCast v373
  let c0_470 : Index := 0#32
  ![v489.toNat, 0]
def k0_off19 (d0 : Dev nD) : Fin 2 → Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c256_i32_34 : BitVec 32 := 256#32
  let v43 : BitVec 32 := Scalar.muli v8 c256_i32_34
  let v44 : BitVec 32 := Scalar.addi c0_i32_35 v43
  let c128_i32 : BitVec 32 := 128#32
  let v142 : BitVec 32 := Scalar.muli v5 c128_i32
  let v143 : BitVec 32 := Scalar.addi v44 v142
  let c2_i32 : BitVec 32 := 2#32
  let v6 : BitVec 32 := Scalar.shrsi v2 c2_i32
  let c1_i32_3 : BitVec 32 := 1#32
  let v7 : BitVec 32 := Scalar.andi v6 c1_i32_3
  let c64_i32 : BitVec 32 := 64#32
  let v280 : BitVec 32 := Scalar.muli v7 c64_i32
  let v281 : BitVec 32 := Scalar.addi v143 v280
  let c0_i32_486 : BitVec 32 := 0#32
  ![v281.toNat, 0]
def k0_dev13 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_479 : BitVec 32 := 4#32
  let v514 : BitVec 32 := Scalar.xori v2 c4_i32_479
  let c1_i32_484 : BitVec 32 := 1#32
  let v515 : BitVec 32 := Scalar.muli v514 c1_i32_484
  let v516 : BitVec 32 := Scalar.addi c0_i32_485 v515
  v516.toNat
def k0_off20 (d0 : Dev nD) : Fin 2 → Nat :=
  let c512_i32_58 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c256_i32_57 : BitVec 32 := 256#32
  let v69 : BitVec 32 := Scalar.muli v5 c256_i32_57
  let v70 : BitVec 32 := Scalar.addi c512_i32_58 v69
  let c2_i32 : BitVec 32 := 2#32
  let v6 : BitVec 32 := Scalar.shrsi v2 c2_i32
  let c1_i32_3 : BitVec 32 := 1#32
  let v7 : BitVec 32 := Scalar.andi v6 c1_i32_3
  let c128_i32_171 : BitVec 32 := 128#32
  let v188 : BitVec 32 := Scalar.muli v7 c128_i32_171
  let v189 : BitVec 32 := Scalar.addi v70 v188
  let c1_i32_0 : BitVec 32 := 1#32
  let v3 : BitVec 32 := Scalar.andi v2 c1_i32_0
  let v8 : BitVec 32 := Scalar.xori v3 v5
  let c64_i32_314 : BitVec 32 := 64#32
  let v326 : BitVec 32 := Scalar.muli v8 c64_i32_314
  let v327 : BitVec 32 := Scalar.addi v189 v326
  let c0_i32_495 : BitVec 32 := 0#32
  ![v327.toNat, 0]
def k0_dev14 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_488 : BitVec 32 := 1#32
  let v523 : BitVec 32 := Scalar.xori v2 c1_i32_488
  let c1_i32_493 : BitVec 32 := 1#32
  let v524 : BitVec 32 := Scalar.muli v523 c1_i32_493
  let v525 : BitVec 32 := Scalar.addi c0_i32_494 v524
  v525.toNat
def k0_off21 (d0 : Dev nD) : Fin 2 → Nat :=
  let c1024_i32_81 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c256_i32_80 : BitVec 32 := 256#32
  let v95 : BitVec 32 := Scalar.muli v7 c256_i32_80
  let v96 : BitVec 32 := Scalar.addi c1024_i32_81 v95
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32_219 : BitVec 32 := 128#32
  let v234 : BitVec 32 := Scalar.muli v8 c128_i32_219
  let v235 : BitVec 32 := Scalar.addi v96 v234
  let c64_i32_362 : BitVec 32 := 64#32
  let v372 : BitVec 32 := Scalar.muli v5 c64_i32_362
  let v373 : BitVec 32 := Scalar.addi v235 v372
  let c0_i32_504 : BitVec 32 := 0#32
  ![v373.toNat, 0]
def k0_dev15 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_497 : BitVec 32 := 3#32
  let v532 : BitVec 32 := Scalar.xori v2 c3_i32_497
  let c1_i32_502 : BitVec 32 := 1#32
  let v533 : BitVec 32 := Scalar.muli v532 c1_i32_502
  let v534 : BitVec 32 := Scalar.addi c0_i32_503 v533
  v534.toNat
def k0_off22 (d0 : Dev nD) : Fin 2 → Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c256_i32_34 : BitVec 32 := 256#32
  let v43 : BitVec 32 := Scalar.muli v8 c256_i32_34
  let v44 : BitVec 32 := Scalar.addi c0_i32_35 v43
  let c128_i32 : BitVec 32 := 128#32
  let v142 : BitVec 32 := Scalar.muli v5 c128_i32
  let v143 : BitVec 32 := Scalar.addi v44 v142
  let c2_i32 : BitVec 32 := 2#32
  let v6 : BitVec 32 := Scalar.shrsi v2 c2_i32
  let c1_i32_3 : BitVec 32 := 1#32
  let v7 : BitVec 32 := Scalar.andi v6 c1_i32_3
  let c64_i32 : BitVec 32 := 64#32
  let v280 : BitVec 32 := Scalar.muli v7 c64_i32
  let v281 : BitVec 32 := Scalar.addi v143 v280
  let c64_i32_521 : BitVec 32 := 64#32
  let v551 : BitVec 32 := Scalar.muli v7 c64_i32_521
  let v552 : BitVec 32 := Scalar.subi v281 v551
  let c0_i32_561 : BitVec 32 := 0#32
  ![v552.toNat, 0]
def k0_dev16 (d0 : Dev nD) : Nat :=
  let c0_i32_560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_554 : BitVec 32 := 3#32
  let v577 : BitVec 32 := Scalar.xori v2 c3_i32_554
  let c1_i32_559 : BitVec 32 := 1#32
  let v578 : BitVec 32 := Scalar.muli v577 c1_i32_559
  let v579 : BitVec 32 := Scalar.addi c0_i32_560 v578
  v579.toNat
def k0_off23 (d0 : Dev nD) : Fin 2 → Nat :=
  let c512_i32_58 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c256_i32_57 : BitVec 32 := 256#32
  let v69 : BitVec 32 := Scalar.muli v5 c256_i32_57
  let v70 : BitVec 32 := Scalar.addi c512_i32_58 v69
  let c2_i32 : BitVec 32 := 2#32
  let v6 : BitVec 32 := Scalar.shrsi v2 c2_i32
  let c1_i32_3 : BitVec 32 := 1#32
  let v7 : BitVec 32 := Scalar.andi v6 c1_i32_3
  let c128_i32_171 : BitVec 32 := 128#32
  let v188 : BitVec 32 := Scalar.muli v7 c128_i32_171
  let v189 : BitVec 32 := Scalar.addi v70 v188
  let c1_i32_0 : BitVec 32 := 1#32
  let v3 : BitVec 32 := Scalar.andi v2 c1_i32_0
  let v8 : BitVec 32 := Scalar.xori v3 v5
  let c64_i32_314 : BitVec 32 := 64#32
  let v326 : BitVec 32 := Scalar.muli v8 c64_i32_314
  let v327 : BitVec 32 := Scalar.addi v189 v326
  let c64_i32_537 : BitVec 32 := 64#32
  let v563 : BitVec 32 := Scalar.muli v8 c64_i32_537
  let v564 : BitVec 32 := Scalar.subi v327 v563
  let c0_i32_570 : BitVec 32 := 0#32
  ![v564.toNat, 0]
def k0_dev17 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_563 : BitVec 32 := 4#32
  let v586 : BitVec 32 := Scalar.xori v2 c4_i32_563
  let c1_i32_568 : BitVec 32 := 1#32
  let v587 : BitVec 32 := Scalar.muli v586 c1_i32_568
  let v588 : BitVec 32 := Scalar.addi c0_i32_569 v587
  v588.toNat
def k0_off24 (d0 : Dev nD) : Fin 2 → Nat :=
  let c1024_i32_81 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c256_i32_80 : BitVec 32 := 256#32
  let v95 : BitVec 32 := Scalar.muli v7 c256_i32_80
  let v96 : BitVec 32 := Scalar.addi c1024_i32_81 v95
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32_219 : BitVec 32 := 128#32
  let v234 : BitVec 32 := Scalar.muli v8 c128_i32_219
  let v235 : BitVec 32 := Scalar.addi v96 v234
  let c64_i32_362 : BitVec 32 := 64#32
  let v372 : BitVec 32 := Scalar.muli v5 c64_i32_362
  let v373 : BitVec 32 := Scalar.addi v235 v372
  let c64_i32_553 : BitVec 32 := 64#32
  let v575 : BitVec 32 := Scalar.muli v5 c64_i32_553
  let v576 : BitVec 32 := Scalar.subi v373 v575
  let c0_i32_579 : BitVec 32 := 0#32
  ![v576.toNat, 0]
def k0_dev18 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_572 : BitVec 32 := 1#32
  let v595 : BitVec 32 := Scalar.xori v2 c1_i32_572
  let c1_i32_577 : BitVec 32 := 1#32
  let v596 : BitVec 32 := Scalar.muli v595 c1_i32_577
  let v597 : BitVec 32 := Scalar.addi c0_i32_578 v596
  v597.toNat
def k0_off25 (d0 : Dev nD) : Fin 2 → Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c256_i32_34 : BitVec 32 := 256#32
  let v43 : BitVec 32 := Scalar.muli v8 c256_i32_34
  let v44 : BitVec 32 := Scalar.addi c0_i32_35 v43
  let c128_i32 : BitVec 32 := 128#32
  let v142 : BitVec 32 := Scalar.muli v5 c128_i32
  let v143 : BitVec 32 := Scalar.addi v44 v142
  let c2_i32 : BitVec 32 := 2#32
  let v6 : BitVec 32 := Scalar.shrsi v2 c2_i32
  let c1_i32_3 : BitVec 32 := 1#32
  let v7 : BitVec 32 := Scalar.andi v6 c1_i32_3
  let c64_i32 : BitVec 32 := 64#32
  let v280 : BitVec 32 := Scalar.muli v7 c64_i32
  let v281 : BitVec 32 := Scalar.addi v143 v280
  let c64_i32_521 : BitVec 32 := 64#32
  let v551 : BitVec 32 := Scalar.muli v7 c64_i32_521
  let v552 : BitVec 32 := Scalar.subi v281 v551
  let c128_i32_596 : BitVec 32 := 128#32
  let v614 : BitVec 32 := Scalar.muli v5 c128_i32_596
  let v615 : BitVec 32 := Scalar.subi v552 v614
  let c0_i32_636 : BitVec 32 := 0#32
  ![v615.toNat, 0]
def k0_dev19 (d0 : Dev nD) : Nat :=
  let c0_i32_635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_629 : BitVec 32 := 1#32
  let v640 : BitVec 32 := Scalar.xori v2 c1_i32_629
  let c1_i32_634 : BitVec 32 := 1#32
  let v641 : BitVec 32 := Scalar.muli v640 c1_i32_634
  let v642 : BitVec 32 := Scalar.addi c0_i32_635 v641
  v642.toNat
def k0_off26 (d0 : Dev nD) : Fin 2 → Nat :=
  let c512_i32_58 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c256_i32_57 : BitVec 32 := 256#32
  let v69 : BitVec 32 := Scalar.muli v5 c256_i32_57
  let v70 : BitVec 32 := Scalar.addi c512_i32_58 v69
  let c2_i32 : BitVec 32 := 2#32
  let v6 : BitVec 32 := Scalar.shrsi v2 c2_i32
  let c1_i32_3 : BitVec 32 := 1#32
  let v7 : BitVec 32 := Scalar.andi v6 c1_i32_3
  let c128_i32_171 : BitVec 32 := 128#32
  let v188 : BitVec 32 := Scalar.muli v7 c128_i32_171
  let v189 : BitVec 32 := Scalar.addi v70 v188
  let c1_i32_0 : BitVec 32 := 1#32
  let v3 : BitVec 32 := Scalar.andi v2 c1_i32_0
  let v8 : BitVec 32 := Scalar.xori v3 v5
  let c64_i32_314 : BitVec 32 := 64#32
  let v326 : BitVec 32 := Scalar.muli v8 c64_i32_314
  let v327 : BitVec 32 := Scalar.addi v189 v326
  let c64_i32_537 : BitVec 32 := 64#32
  let v563 : BitVec 32 := Scalar.muli v8 c64_i32_537
  let v564 : BitVec 32 := Scalar.subi v327 v563
  let c128_i32_612 : BitVec 32 := 128#32
  let v626 : BitVec 32 := Scalar.muli v7 c128_i32_612
  let v627 : BitVec 32 := Scalar.subi v564 v626
  let c0_i32_645 : BitVec 32 := 0#32
  ![v627.toNat, 0]
def k0_dev20 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_638 : BitVec 32 := 3#32
  let v649 : BitVec 32 := Scalar.xori v2 c3_i32_638
  let c1_i32_643 : BitVec 32 := 1#32
  let v650 : BitVec 32 := Scalar.muli v649 c1_i32_643
  let v651 : BitVec 32 := Scalar.addi c0_i32_644 v650
  v651.toNat
def k0_off27 (d0 : Dev nD) : Fin 2 → Nat :=
  let c1024_i32_81 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c256_i32_80 : BitVec 32 := 256#32
  let v95 : BitVec 32 := Scalar.muli v7 c256_i32_80
  let v96 : BitVec 32 := Scalar.addi c1024_i32_81 v95
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c128_i32_219 : BitVec 32 := 128#32
  let v234 : BitVec 32 := Scalar.muli v8 c128_i32_219
  let v235 : BitVec 32 := Scalar.addi v96 v234
  let c64_i32_362 : BitVec 32 := 64#32
  let v372 : BitVec 32 := Scalar.muli v5 c64_i32_362
  let v373 : BitVec 32 := Scalar.addi v235 v372
  let c64_i32_553 : BitVec 32 := 64#32
  let v575 : BitVec 32 := Scalar.muli v5 c64_i32_553
  let v576 : BitVec 32 := Scalar.subi v373 v575
  let c128_i32_628 : BitVec 32 := 128#32
  let v638 : BitVec 32 := Scalar.muli v8 c128_i32_628
  let v639 : BitVec 32 := Scalar.subi v576 v638
  let c0_i32_654 : BitVec 32 := 0#32
  ![v639.toNat, 0]
def k0_dev21 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_647 : BitVec 32 := 4#32
  let v658 : BitVec 32 := Scalar.xori v2 c4_i32_647
  let c1_i32_652 : BitVec 32 := 1#32
  let v659 : BitVec 32 := Scalar.muli v658 c1_i32_652
  let v660 : BitVec 32 := Scalar.addi c0_i32_653 v659
  v660.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x6144 : Shape := ⟨2, ![1536, 6144]⟩
abbrev S6144x1536 : Shape := ⟨2, ![6144, 1536]⟩
abbrev S1536x1536 : Shape := ⟨2, ![1536, 1536]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1536x6144, .f32⟩
  | .hbm, ⟨1, _⟩ => ⟨S6144x1536, .f32⟩
  | .hbm, ⟨2, _⟩ => ⟨S1536x1536, .f32⟩
  | .hbm, ⟨3, _⟩ => ⟨S_, .f32⟩
  | .hbm, ⟨4, _⟩ => ⟨S1536x1536, .f32⟩
  | .hbm, ⟨5, _⟩ => ⟨S1536x1536, .f32⟩
  | .hbm, ⟨6, _⟩ => ⟨S_, .f32⟩
  | .hbm, ⟨7, _⟩ => ⟨S1536x1536, .f32⟩
  | .hbm, ⟨8, _⟩ => ⟨S1536x1536, .f32⟩
  | .hbm, ⟨9, _⟩ => ⟨S1536x1536, .f32⟩
  | .hbm, ⟨10, _⟩ => ⟨S1536x1536, .f32⟩
  | .hbm, ⟨11, _⟩ => ⟨S1536x1536, .f32⟩
  | .hbm, ⟨12, _⟩ => ⟨S_, .f32⟩
  | .hbm, ⟨13, _⟩ => ⟨S1536x1536, .f32⟩
  | .hbm, ⟨14, _⟩ => ⟨S1536x1536, .f32⟩
  | .hbm, ⟨15, _⟩ => ⟨S1536x1536, .f32⟩
  | .hbm, ⟨16, _⟩ => ⟨S_, .f32⟩
  | .hbm, ⟨17, _⟩ => ⟨S1536x1536, .f32⟩
  | .hbm, ⟨18, _⟩ => ⟨S1536x1536, .f32⟩
  | .hbm, ⟨19, _⟩ => ⟨S1536x1536, .f32⟩
  | _, _ => ⟨S1536x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Rows.lean ====
/-
  Bands of rows of a 1536 × 1536 buffer, and one-slot slices of a rank-3 buffer, as separately owned
  pieces: loading and storing an owned slice; cutting a band in two and putting it together again; the
  squeezed form of a slot that a transfer names.
-/
module

public import Idealize.ShloMosaic.Lib.Memref
public import Idealize.ShloMosaic.Lib.Writes
public import Idealize.ShloMosaic.Lib.Pointwise.Index
public import Idealize.ShloMosaic.Lib.ValueLayout
public import Idealize.ShloMosaic.Lib.Tactic

@[expose] public section

noncomputable section

namespace Cert.Rows

open Idealize.ShloMosaic
open Idealize.SL Idealize.SL.RA Idealize.SL.BI
open scoped Idealize.SL.BI
open Idealize.SL.BI.BIBase Idealize.SL.BI.Laws Idealize.SL.ProofMode Idealize.SL.Sem

/-! ## Index shapes -/

/-- `n` rows of 1536 columns. -/
abbrev R (n : ℕ) : Shape := ⟨2, ![n, 1536]⟩

/-- Rows `o … o + n - 1` of an array of `N` rows. -/
def seg {α : Type} {N : ℕ} (o n : ℕ) (h : o + n ≤ N) (X : (R N).Idx → α) : (R n).Idx → α :=
  fun j => X (ix2 ⟨o + (j 0).val, Nat.lt_of_lt_of_le (Nat.add_lt_add_left (j 0).isLt o) h⟩ (j 1))

/-- Rows of rows are rows. -/
theorem seg_seg {α : Type} {N n : ℕ} (o : ℕ) (h : o + n ≤ N) (o' n' : ℕ) (h' : o' + n' ≤ n) (X : (R N).Idx → α) :
    seg o' n' h' (seg o n h X) = seg (o + o') n' (by omega) X := by
  funext j
  unfold seg
  refine congrArg X (funext fun a => Fin.ext ?_)
  match a with
  | ⟨0, _⟩ => exact (Nat.add_assoc o o' (j 0).val).symm
  | ⟨1, _⟩ => rfl

/-- All the rows. -/
theorem seg_all {α : Type} {N : ℕ} (h : 0 + N ≤ N) (X : (R N).Idx → α) : seg 0 N h X = X := by
  funext j
  unfold seg
  refine congrArg X (funext fun a => Fin.ext ?_)
  match a with
  | ⟨0, _⟩ => exact Nat.zero_add _
  | ⟨1, _⟩ => rfl

/-- Equal offsets name the same rows. -/
theorem seg_congr {α : Type} {N : ℕ} {o o' n : ℕ} (ho : o = o') (h : o + n ≤ N) (h' : o' + n ≤ N) (X : (R N).Idx → α) :
    seg o n h X = seg o' n h' X := by subst ho; rfl

/-- `a` rows above `b` rows. -/
def glue {α : Type} {a b : ℕ} (X : (R a).Idx → α) (Y : (R b).Idx → α) : (R (a + b)).Idx → α :=
  fun j => if hj : (j 0).val < a then X (ix2 ⟨(j 0).val, hj⟩ (j 1))
    else Y (ix2 ⟨(j 0).val - a, by have : (j 0).val < a + b := (j 0).isLt; omega⟩ (j 1))

theorem seg_glue_upper {α : Type} {a b : ℕ} (X : (R a).Idx → α) (Y : (R b).Idx → α) (h : 0 + a ≤ a + b) : seg 0 a h (glue X Y) = X := by
  funext j
  have hj : (j 0).val < a := (j 0).isLt
  unfold seg
  refine (dif_pos (show 0 + (j 0).val < a by omega)).trans (congrArg X (funext fun x => Fin.ext ?_))
  match x with
  | ⟨0, _⟩ => exact Nat.zero_add _
  | ⟨1, _⟩ => rfl

theorem seg_glue_lower {α : Type} {a b : ℕ} (X : (R a).Idx → α) (Y : (R b).Idx → α) (h : a + b ≤ a + b) : seg a b h (glue X Y) = Y := by
  funext j
  unfold seg
  refine (dif_neg (show ¬ (a + (j 0).val < a) by omega)).trans (congrArg Y (funext fun x => Fin.ext ?_))
  match x with
  | ⟨0, _⟩ => exact Nat.add_sub_cancel_left _ _
  | ⟨1, _⟩ => rfl

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A band's bounds. -/
theorem inb_band {r n : ℕ} (h : r + n ≤ 1536) : ∀ a, (![r, 0] : Fin 2 → ℕ) a + (R n).size a ≤ (R 1536).size a :=
  Fin.forall_fin_two.mpr ⟨h, Nat.le_refl _⟩

/-- The rectangle of the rows `r … r + n - 1`. -/
abbrev band (r n : ℕ) (h : r + n ≤ 1536) : Rect (R 1536) := Rect.unit (s := R 1536) ![r, 0] (R n).size (inb_band h)

section Own

variable (c : Thread nD τ) {sp : Space} {e : EltTy}

/-- Core `c` owns the rows `r … r + n - 1` of the buffer, holding `X`. -/
def rows (m : Memref sig c.2.kind sp (R 1536) e) (r n : ℕ) (h : r + n ≤ 1536) (X : (R n).Idx → Val e) : sProp 𝕄 :=
  owns c (m.slice (band r n h) (fun _ => rfl)) fullShare X

instance rows_storable (m : Memref sig c.2.kind sp (R 1536) e) (r n : ℕ) (h : r + n ≤ 1536) (X : (R n).Idx → Val e) :
    BI.Storable (upEmb : UEmb _ 𝕄) (rows c m r n h X) := by unfold rows; infer_instance

/-- The elements of a band in the buffer. -/
theorem band_set (m : Memref sig c.2.kind sp (R 1536) e) (r n : ℕ) (h : r + n ≤ 1536) :
    (m.slice (band r n h) (fun _ => rfl)).view.set = (band r n h).set.map m.view.emb := View.set_slice m.view _

theorem mem_band {r n : ℕ} {h : r + n ≤ 1536} {i : (R 1536).Idx} : i ∈ (band r n h).set ↔ r ≤ (i 0).val ∧ (i 0).val < r + n := by
  rw [Rect.mem_set_unit]
  constructor
  · intro H; exact H 0
  · intro H a
    match a with
    | ⟨0, _⟩ => exact H
    | ⟨1, _⟩ => exact ⟨Nat.zero_le _, Nat.lt_of_lt_of_eq (i 1).isLt (Nat.zero_add _).symm⟩

theorem band_union (r a b : ℕ) (h : r + (a + b) ≤ 1536) :
    (band r (a + b) h).set = (band r a (by omega)).set ∪ (band (r + a) b (by omega)).set := by
  ext i
  rw [Finset.mem_union, mem_band, mem_band, mem_band]
  omega

theorem band_disjoint (r a b : ℕ) (h : r + (a + b) ≤ 1536) :
    Disjoint (band r a (by omega)).set (band (r + a) b (by omega)).set := by
  rw [Finset.disjoint_left]
  intro i h1 h2
  rw [mem_band] at h1 h2
  omega

/-- The place of a band's element in the buffer. -/
theorem band_emb (r n : ℕ) (h : r + n ≤ 1536) (j : (R n).Idx) :
    (band r n h).emb j = ix2 ⟨r + (j 0).val, Nat.lt_of_lt_of_le (Nat.add_lt_add_left (j 0).isLt r) h⟩ (j 1) := by
  funext a
  apply Fin.ext
  rw [Rect.emb_apply]
  match a with
  | ⟨0, _⟩ => show r + 1 * (j 0).val = r + (j 0).val; rw [Nat.one_mul]
  | ⟨1, _⟩ => show 0 + 1 * (j 1).val = (j 1).val; rw [Nat.one_mul, Nat.zero_add]

/-- A band is its upper part and its lower part. -/
theorem rows_cut (m : Memref sig c.2.kind sp (R 1536) e) (r a b : ℕ) (h : r + (a + b) ≤ 1536) (X : (R (a + b)).Idx → Val e) :
    (rows c m r (a + b) h X : sProp 𝕄)
      ⊢ iprop(rows c m r a (by omega) (seg 0 a (by omega) X) ∗ rows c m (r + a) b (by omega) (seg a b (Nat.le_refl _) X)) := by
  have h1 : r + a ≤ 1536 := by omega
  have h2 : r + a + b ≤ 1536 := by omega
  have h0 : 0 + a ≤ a + b := by omega
  unfold rows
  iintro H
  ihave H' := (show owns c (m.slice (band r (a + b) h) (fun _ => rfl)) fullShare X
    ⊢ iprop(∃ f, ⌜(m.slice (band r (a + b) h) (fun _ => rfl)).view.read Val f = X⌝
      ∗ (m.view.loc c ↦[(m.slice (band r (a + b) h) (fun _ => rfl)).view.set]{fullShare} f)) from .rfl) $$ H
  icases H' with ⟨%f, %hf, H⟩
  rw [band_set, band_union r a b h, Finset.map_union]
  ihave H' := (pointsTo_union ((Finset.disjoint_map _).mpr (band_disjoint r a b h))).1 $$ H
  icases H' with ⟨H1, H2⟩
  rw [← band_set c m, ← band_set c m]
  isplitl [H1]
  · have e1 : (m.slice (band r a h1) (fun _ => rfl)).view.read Val f = seg 0 a h0 X := by
      rw [← hf]; funext j
      show m.view.read Val f ((band r a h1).emb j) = m.view.read Val f ((band r (a + b) h).emb _)
      rw [band_emb, band_emb]
      refine congrArg _ (funext fun x => Fin.ext ?_)
      match x with
      | ⟨0, _⟩ => show r + (j 0).val = r + (0 + (j 0).val); omega
      | ⟨1, _⟩ => rfl
    rw [← e1]
    iapply (owns_intro c (m.slice (band r a h1) (fun _ => rfl)) fullShare f); iexact H1
  · have e2 : (m.slice (band (r + a) b h2) (fun _ => rfl)).view.read Val f = seg a b (Nat.le_refl _) X := by
      rw [← hf]; funext j
      show m.view.read Val f ((band (r + a) b h2).emb j) = m.view.read Val f ((band r (a + b) h).emb _)
      rw [band_emb, band_emb]
      refine congrArg _ (funext fun x => Fin.ext ?_)
      match x with
      | ⟨0, _⟩ => show r + a + (j 0).val = r + (a + (j 0).val); omega
      | ⟨1, _⟩ => rfl
    rw [← e2]
    iapply (owns_intro c (m.slice (band (r + a) b h2) (fun _ => rfl)) fullShare f); iexact H2

/-- An upper and a lower part, at the rows of one array, are its band. -/
theorem rows_join (m : Memref sig c.2.kind sp (R 1536) e) (r a b : ℕ) (h : r + (a + b) ≤ 1536) (X : (R (a + b)).Idx → Val e) :
    iprop(rows c m r a (by omega) (seg 0 a (by omega) X) ∗ rows c m (r + a) b (by omega) (seg a b (Nat.le_refl _) X))
      ⊢ (rows c m r (a + b) h X : sProp 𝕄) := by
  have h1 : r + a ≤ 1536 := by omega
  have h2 : r + a + b ≤ 1536 := by omega
  have h0 : 0 + a ≤ a + b := by omega
  unfold rows
  iintro ⟨H1, H2⟩
  ihave H1' := (show owns c (m.slice (band r a h1) (fun _ => rfl)) fullShare (seg 0 a h0 X)
    ⊢ iprop(∃ f, ⌜(m.slice (band r a h1) (fun _ => rfl)).view.read Val f = seg 0 a h0 X⌝
      ∗ (m.view.loc c ↦[(m.slice (band r a h1) (fun _ => rfl)).view.set]{fullShare} f)) from .rfl) $$ H1
  icases H1' with ⟨%f, %hf, H1⟩
  ihave H2' := (show owns c (m.slice (band (r + a) b h2) (fun _ => rfl)) fullShare (seg a b (Nat.le_refl _) X)
    ⊢ iprop(∃ f, ⌜(m.slice (band (r + a) b h2) (fun _ => rfl)).view.read Val f = seg a b (Nat.le_refl _) X⌝
      ∗ (m.view.loc c ↦[(m.slice (band (r + a) b h2) (fun _ => rfl)).view.set]{fullShare} f)) from .rfl) $$ H2
  icases H2' with ⟨%g, %hg, H2⟩
  have hdis : Disjoint (m.slice (band r a h1) (fun _ => rfl)).view.set (m.slice (band (r + a) b h2) (fun _ => rfl)).view.set := by
    rw [band_set, band_set]; exact (Finset.disjoint_map _).mpr (band_disjoint r a b h)
  ihave H := (pointsTo_join (ℓ := m.view.loc c) (f := f) (g := g) hdis) $$ [H1 H2]
  · isplitl [H1]; · iexact H1
    iexact H2
  rw [show (m.slice (band r a h1) (fun _ => rfl)).view.set ∪ (m.slice (band (r + a) b h2) (fun _ => rfl)).view.set
      = (m.slice (band r (a + b) h) (fun _ => rfl)).view.set from by
    rw [band_set, band_set, band_set, band_union r a b h, Finset.map_union]]
  have hX : (m.slice (band r (a + b) h) (fun _ => rfl)).view.read Val
      ((m.slice (band (r + a) b h2) (fun _ => rfl)).view.set.piecewise g f) = X := by
    funext j
    by_cases hj : (j 0).val < a
    · have e0 : (m.slice (band r (a + b) h) (fun _ => rfl)).view.emb j
          = (m.slice (band r a h1) (fun _ => rfl)).view.emb (ix2 ⟨(j 0).val, hj⟩ (j 1)) := by
        show m.view.emb ((band r (a + b) h).emb j) = m.view.emb ((band r a h1).emb _)
        rw [band_emb, band_emb]; rfl
      rw [View.read_apply, Finset.piecewise_eq_of_notMem _ _ _ (by
        rw [e0]; exact fun hm => Finset.disjoint_left.mp hdis (View.emb_mem_set _ _) hm)]
      have := congrFun hf (ix2 ⟨(j 0).val, hj⟩ (j 1))
      rw [View.read_apply] at this
      rw [e0]
      refine this.trans ?_
      unfold seg
      refine congrArg X (funext fun x => Fin.ext ?_)
      match x with
      | ⟨0, _⟩ => exact Nat.zero_add _
      | ⟨1, _⟩ => rfl
    · have hj2 : (j 0).val - a < b := by have := (j 0).isLt; have : (j 0).val < a + b := this; omega
      have e0 : (m.slice (band r (a + b) h) (fun _ => rfl)).view.emb j
          = (m.slice (band (r + a) b h2) (fun _ => rfl)).view.emb (ix2 ⟨(j 0).val - a, hj2⟩ (j 1)) := by
        show m.view.emb ((band r (a + b) h).emb j) = m.view.emb ((band (r + a) b h2).emb _)
        rw [band_emb, band_emb]
        refine congrArg m.view.emb (funext fun x => Fin.ext ?_)
        match x with
        | ⟨0, _⟩ => show r + (j 0).val = r + a + ((j 0).val - a); omega
        | ⟨1, _⟩ => rfl
      rw [View.read_apply, Finset.piecewise_eq_of_mem _ _ _ (by rw [e0]; exact View.emb_mem_set _ _)]
      have := congrFun hg (ix2 ⟨(j 0).val - a, hj2⟩ (j 1))
      rw [View.read_apply] at this
      rw [e0]
      refine this.trans ?_
      unfold seg
      refine congrArg X (funext fun x => Fin.ext ?_)
      match x with
      | ⟨0, _⟩ => show a + ((j 0).val - a) = (j 0).val; omega
      | ⟨1, _⟩ => rfl
  have hfin := owns_intro (Ix := Ix) (Name := Name) (U := U) (Lvl := Lvl) c (m.slice (band r (a + b) h) (fun _ => rfl)) fullShare
    ((m.slice (band (r + a) b h2) (fun _ => rfl)).view.set.piecewise g f)
  rw [hX] at hfin
  iapply hfin; iexact H

/-- The rows named by equal numbers are the same. -/
theorem rows_congr (m : Memref sig c.2.kind sp (R 1536) e) {r r' n : ℕ} (hr : r = r') (h : r + n ≤ 1536) (h' : r' + n ≤ 1536)
    {X Y : (R n).Idx → Val e} (hX : X = Y) : (rows c m r n h X : sProp 𝕄) = rows c m r' n h' Y := by
  subst hr; subst hX; rfl

/-- A band of `2n` rows is its half number `b` and its half number `1 - b`. -/
theorem rows_halve (m : Memref sig c.2.kind sp (R 1536) e) (r n N b : ℕ) (hN : N = n + n) (hb : b ≤ 1) (h : r + N ≤ 1536) (X : (R N).Idx → Val e) :
    (rows c m r N h X : sProp 𝕄)
      ⊢ iprop(rows c m (r + n * b) n (by have := Nat.mul_le_mul_left n hb; omega) (seg (n * b) n (by have := Nat.mul_le_mul_left n hb; omega) X)
          ∗ rows c m (r + n * (1 - b)) n (by have := Nat.mul_le_mul_left n (Nat.sub_le 1 b); omega)
              (seg (n * (1 - b)) n (by have := Nat.mul_le_mul_left n (Nat.sub_le 1 b); omega) X)) := by
  subst hN
  have hc := rows_cut (Ix := Ix) (Name := Name) (U := U) (Lvl := Lvl) c m r n n h X
  rcases (by omega : b = 0 ∨ b = 1) with rfl | rfl
  · rw [rows_congr c m (show r + n * 0 = r by omega) _ (by omega) (seg_congr (show n * 0 = 0 by omega) _ (by omega) X),
      rows_congr c m (show r + n * (1 - 0) = r + n by omega) _ (by omega) (seg_congr (show n * (1 - 0) = n by omega) _ (by omega) X)]
    exact hc
  · rw [rows_congr c m (show r + n * (1 - 1) = r by omega) _ (by omega) (seg_congr (show n * (1 - 1) = 0 by omega) _ (by omega) X),
      rows_congr c m (show r + n * 1 = r + n by omega) _ (by omega) (seg_congr (show n * 1 = n by omega) _ (by omega) X)]
    iintro H
    ihave H' := hc $$ H
    icases H' with ⟨H1, H2⟩
    isplitl [H2]; · iexact H2
    iexact H1

/-- and the halves, in either order, at the rows of one array are the band. -/
theorem rows_unhalve (m : Memref sig c.2.kind sp (R 1536) e) (r n N b : ℕ) (hN : N = n + n) (hb : b ≤ 1) (h : r + N ≤ 1536) (X : (R N).Idx → Val e) :
    iprop(rows c m (r + n * b) n (by have := Nat.mul_le_mul_left n hb; omega) (seg (n * b) n (by have := Nat.mul_le_mul_left n hb; omega) X)
          ∗ rows c m (r + n * (1 - b)) n (by have := Nat.mul_le_mul_left n (Nat.sub_le 1 b); omega)
              (seg (n * (1 - b)) n (by have := Nat.mul_le_mul_left n (Nat.sub_le 1 b); omega) X))
      ⊢ (rows c m r N h X : sProp 𝕄) := by
  subst hN
  have hc := rows_join (Ix := Ix) (Name := Name) (U := U) (Lvl := Lvl) c m r n n h X
  rcases (by omega : b = 0 ∨ b = 1) with rfl | rfl
  · rw [rows_congr c m (show r + n * 0 = r by omega) _ (by omega) (seg_congr (show n * 0 = 0 by omega) _ (by omega) X),
      rows_congr c m (show r + n * (1 - 0) = r + n by omega) _ (by omega) (seg_congr (show n * (1 - 0) = n by omega) _ (by omega) X)]
    exact hc
  · rw [rows_congr c m (show r + n * (1 - 1) = r by omega) _ (by omega) (seg_congr (show n * (1 - 1) = 0 by omega) _ (by omega) X),
      rows_congr c m (show r + n * 1 = r + n by omega) _ (by omega) (seg_congr (show n * 1 = n by omega) _ (by omega) X)]
    iintro ⟨H1, H2⟩
    iapply hc
    isplitl [H2]; · iexact H2
    iexact H1

/-- The rows `r … r + n - 1`, holding anything. -/
def rowsAny (m : Memref sig c.2.kind sp (R 1536) e) (r n : ℕ) (h : r + n ≤ 1536) : sProp 𝕄 := iprop(∃ X, rows c m r n h X)

instance rowsAny_storable (m : Memref sig c.2.kind sp (R 1536) e) (r n : ℕ) (h : r + n ≤ 1536) :
    BI.Storable (upEmb : UEmb _ 𝕄) (rowsAny (Val := Val) c m r n h) := by unfold rowsAny; infer_instance

theorem rows_any (m : Memref sig c.2.kind sp (R 1536) e) (r n : ℕ) (h : r + n ≤ 1536) (X : (R n).Idx → Val e) :
    (rows c m r n h X : sProp 𝕄) ⊢ rowsAny c m r n h := by
  unfold rowsAny; iintro H; iexists X; iexact H

theorem rowsAny_congr (m : Memref sig c.2.kind sp (R 1536) e) {r r' n : ℕ} (hr : r = r') (h : r + n ≤ 1536) (h' : r' + n ≤ 1536) :
    (rowsAny (Val := Val) c m r n h : sProp 𝕄) = rowsAny c m r' n h' := by
  subst hr; rfl

/-- Two bands holding any two arrays are one band holding some array. -/
theorem rowsAny_join (m : Memref sig c.2.kind sp (R 1536) e) (r a b : ℕ) (h : r + (a + b) ≤ 1536) :
    iprop(rowsAny c m r a (by omega) ∗ rowsAny c m (r + a) b (by omega)) ⊢ (rowsAny (Val := Val) c m r (a + b) h : sProp 𝕄) := by
  unfold rowsAny
  iintro ⟨⟨%X, H1⟩, ⟨%Y, H2⟩⟩
  iexists (glue X Y)
  iapply (rows_join c m r a b h _)
  isplitl [H1]
  · rw [seg_glue_upper]; iexact H1
  · rw [seg_glue_lower]; iexact H2

/-- Two halves, in either order, holding anything. -/
theorem rowsAny_unhalve (m : Memref sig c.2.kind sp (R 1536) e) (r n N b : ℕ) (hN : N = n + n) (hb : b ≤ 1) (h : r + N ≤ 1536) :
    iprop(rowsAny c m (r + n * b) n (by have := Nat.mul_le_mul_left n hb; omega)
          ∗ rowsAny c m (r + n * (1 - b)) n (by have := Nat.mul_le_mul_left n (Nat.sub_le 1 b); omega))
      ⊢ (rowsAny (Val := Val) c m r N h : sProp 𝕄) := by
  subst hN
  have hc := rowsAny_join (Val := Val) (Ix := Ix) (Name := Name) (U := U) (Lvl := Lvl) c m r n n h
  rcases (by omega : b = 0 ∨ b = 1) with rfl | rfl
  · rw [rowsAny_congr c m (show r + n * 0 = r by omega) _ (by omega),
      rowsAny_congr c m (show r + n * (1 - 0) = r + n by omega) _ (by omega)]
    exact hc
  · rw [rowsAny_congr c m (show r + n * (1 - 1) = r by omega) _ (by omega),
      rowsAny_congr c m (show r + n * 1 = r + n by omega) _ (by omega)]
    iintro ⟨H1, H2⟩
    iapply hc
    isplitl [H2]; · iexact H2
    iexact H1

/-- A whole buffer is its 1536 rows. -/
theorem rows_whole (m : Memref sig c.2.kind sp (R 1536) e) (X : (R 1536).Idx → Val e) :
    (rows c m 0 1536 (by omega) X : sProp 𝕄) = owns c m fullShare X := by
  have hz : 0 + 1536 ≤ 1536 := by omega
  have hset : (m.slice (band 0 1536 hz) (fun _ => rfl)).view.set = m.view.set := by
    rw [band_set]
    have : (band 0 1536 hz).set = Finset.univ := by
      ext i
      rw [mem_band]
      exact ⟨fun _ => Finset.mem_univ _, fun _ => ⟨Nat.zero_le _, Nat.lt_of_lt_of_eq (i 0).isLt (Nat.zero_add _).symm⟩⟩
    rw [this]; rfl
  have hread (f : m.view.ty.Contents Val) : (m.slice (band 0 1536 hz) (fun _ => rfl)).view.read Val f = m.view.read Val f := by
    funext j
    show m.view.read Val f ((band 0 1536 hz).emb j) = m.view.read Val f j
    rw [band_emb]
    refine congrArg _ (funext fun x => Fin.ext ?_)
    match x with
    | ⟨0, _⟩ => exact Nat.zero_add _
    | ⟨1, _⟩ => rfl
  unfold rows owns
  simp only [hread]
  rw [hset]

end Own

/-! ## Slots of a rank-3 buffer -/

section Slot

variable (c : Thread nD τ) {sp : Space} {e : EltTy}

/-- An array of `n` rows as the one slot of a rank-3 array. -/
def up {α : Type} {n : ℕ} (X : (R n).Idx → α) : (⟨3, ![1, n, 1536]⟩ : Shape).Idx → α := fun j => X (ix2 (j 1) (j 2))

/-- A one-slot array is the slot of its array. -/
theorem up_down {α : Type} {n : ℕ} (Y : (⟨3, ![1, n, 1536]⟩ : Shape).Idx → α) :
    up (fun j : (R n).Idx => Y (ix3 (⟨0, Nat.one_pos⟩ : Fin 1) (j 0) (j 1))) = Y := by
  funext i
  show Y _ = Y i
  refine congrArg Y ?_
  funext x
  match x with
  | ⟨0, _⟩ => exact Fin.ext (by have := (i 0).isLt; have : (i 0).val < 1 := this; show 0 = (i 0).val; omega)
  | ⟨1, _⟩ => rfl
  | ⟨2, _⟩ => rfl

/-- A one-slot memref owned in its squeezed form is owned at the slot's contents. -/
theorem owns_squeeze {n : ℕ} (m : Memref sig c.2.kind sp (⟨3, ![1, n, 1536]⟩ : Shape) e)
    (hs : (⟨3, ![1, n, 1536]⟩ : Shape).Squeezes (R n)) (X : (R n).Idx → Val e) :
    (owns c (m.squeeze (R n) hs) fullShare X : sProp 𝕄) = owns c m fullShare (up X) := by
  have hread (f : m.view.ty.Contents Val) : (m.squeeze (R n) hs).view.read Val f = X ↔ m.view.read Val f = up X := by
    have h0 (j : (R n).Idx) : (m.squeeze (R n) hs).view.read Val f j = m.view.read Val f (ix3 (⟨0, Nat.one_pos⟩ : Fin 1) (j 0) (j 1)) := by
      show m.view.read Val f (Shape.reshapeEquiv hs.numel_eq j) = _
      refine congrArg _ ?_
      have hj : j = ix2 (j 0) (j 1) := by
        funext x
        match x with
        | ⟨0, _⟩ => rfl
        | ⟨1, _⟩ => rfl
      exact (congrArg (Shape.reshapeEquiv hs.numel_eq) hj).trans (ValueIdx.reshapeEquiv_ix2_1ab hs.numel_eq (j 0) (j 1))
    constructor
    · intro h
      funext i
      have := congrFun h (ix2 (i 1) (i 2))
      rw [h0] at this
      refine Eq.trans (congrArg _ ?_) this
      funext x
      match x with
      | ⟨0, _⟩ => exact Fin.ext (by have := (i 0).isLt; have : (i 0).val < 1 := this; show (i 0).val = 0; omega)
      | ⟨1, _⟩ => rfl
      | ⟨2, _⟩ => rfl
    · intro h
      funext j
      rw [h0, h]
      show X (ix2 (j 0) (j 1)) = X j
      refine congrArg X ?_
      funext x
      match x with
      | ⟨0, _⟩ => rfl
      | ⟨1, _⟩ => rfl
  have hset : (m.squeeze (R n) hs).view.set = m.view.set := View.set_reshape _ _
  unfold owns
  simp only [hread]
  rw [hset]

end Slot

/-! ## Loading and storing an owned slice -/

section Wp

variable {Λ : Labels} [Preorder Lvl] {defs : Defs nD τ sig Val Λ} (𝒱 : Variants) (c : Thread nD τ)
variable {s : Shape} {e : EltTy} {α : Type} {Q : α → sProp (MT nD τ sig Ix Val Name U Lvl)} (bd : Option 𝒱.V) (E : Set Name)

/-- A load of an owned slice: the program continues at what the slice holds. -/
theorem wp_load_slice {cs : CoreSpace} {m : Memref sig c.2.kind cs s e} {r : Rect s} {hl : m.view.LoadsAt r} (hr : ∀ a, r.stride a = 1)
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c bd) E (k X) Q)
        -∗ wp frame (wpE defs 𝒱 c bd) E (.op (.load m r hl) k) Q) := by
  unfold owns
  iintro ⟨%f, %hf, H⟩ Hk
  iapply (wp_load_rect 𝒱 c bd E (m := m) (r := r) (hl := hl) (k := k) (q := q) (f := f) (Finset.Subset.refl _)) $$ H
  iintro H
  rw [show (m.access r).read Val f = X from hf]
  iapply Hk
  iexists f; isplitr; · ipureintro; exact hf
  iexact H

/-- A store over an owned slice: the slice holds what was stored. -/
theorem wp_store_slice {cs : CoreSpace} {m : Memref sig c.2.kind cs s e} {r : Rect s} {w : r.shape.Idx → Val e} {hx : (m.access r).Stores Finset.univ}
    {hm : (Finset.univ : Finset r.shape.Idx) = Finset.univ ∨ ∀ a, r.stride a = 1} (hr : ∀ a, r.stride a = 1)
    {k : PUnit → Prog (TpuEff nD τ sig Val Λ c.2) α} {X : r.shape.Idx → Val e} :
    (owns c (m.slice r hr) fullShare X : sProp 𝕄)
      ⊢ iprop((owns c (m.slice r hr) fullShare w -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ) (hx := hx) (hm := hm) (k := k) (S := (m.slice r hr).view.set) (f := f) (Finset.Subset.refl _)) $$ H
  iintro H
  iapply Hk
  iexists _; isplitr
  swap
  · iexact H
  · ipureintro; exact View.read_write_univ f w

/-- A load of part of an owned buffer. -/
theorem wp_load_part {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (fun j => X (r.emb j))) Q)
        -∗ wp frame (wpE defs 𝒱 c bd) E (.op (.load m r hl) k) Q) := by
  unfold owns
  iintro ⟨%f, %hf, H⟩ Hk
  iapply (wp_load_rect 𝒱 c bd E (m := m) (r := r) (hl := hl) (k := k) (q := q) (f := f) (by
    intro i hi
    rw [show (m.access r).set = r.set.map m.view.emb from View.set_slice m.view r] at hi
    obtain ⟨j, -, rfl⟩ := Finset.mem_map.mp hi
    exact View.emb_mem_set _ _)) $$ H
  iintro H
  rw [show (m.access r).read Val f = (fun j => X (r.emb j)) from by rw [← hf]; rfl]
  iapply Hk
  iexists f; isplitr; · ipureintro; exact hf
  iexact H

/-- A load of a band of rows, -/
theorem wp_load_rows {cs : CoreSpace} {m : Memref sig c.2.kind cs (R 1536) e} {o : Fin 2 → ℕ} {r n : ℕ} (ho : o = ![r, 0]) (h : r + n ≤ 1536)
    {inb : ∀ a, o a + (R n).size a ≤ (R 1536).size a} {hl : m.view.LoadsAt (Rect.unit (s := R 1536) o (R n).size inb)}
    {k : ((R n).Idx → Val e) → Prog (TpuEff nD τ sig Val Λ c.2) α} {X : (R n).Idx → Val e} :
    (rows c m r n h X : sProp 𝕄)
      ⊢ iprop((rows c m r n h X -∗ wp frame (wpE defs 𝒱 c bd) E (k X) Q)
        -∗ wp frame (wpE defs 𝒱 c bd) E (.op (.load m (Rect.unit (s := R 1536) o (R n).size inb) hl) k) Q) := by
  subst ho
  exact wp_load_slice 𝒱 c bd E (fun _ => rfl)

/-- and a store over one. -/
theorem wp_store_rows {cs : CoreSpace} {m : Memref sig c.2.kind cs (R 1536) e} {o : Fin 2 → ℕ} {r n : ℕ} (ho : o = ![r, 0]) (h : r + n ≤ 1536)
    {inb : ∀ a, o a + (R n).size a ≤ (R 1536).size a} {w : (R n).Idx → Val e}
    {hx : (m.access (Rect.unit (s := R 1536) o (R n).size inb)).Stores Finset.univ}
    {hm : (Finset.univ : Finset (R n).Idx) = Finset.univ ∨ ∀ a, (Rect.unit (s := R 1536) o (R n).size inb).stride a = 1}
    {k : PUnit → Prog (TpuEff nD τ sig Val Λ c.2) α} {X : (R n).Idx → Val e} :
    (rows c m r n h X : sProp 𝕄)
      ⊢ iprop((rows c m r n h w -∗ wp frame (wpE defs 𝒱 c bd) E (k ⟨⟩) Q)
        -∗ wp frame (wpE defs 𝒱 c bd) E (.op (.store m (Rect.unit (s := R 1536) o (R n).size inb) w Finset.univ hx hm) k) Q) := by
  subst ho
  exact wp_store_slice 𝒱 c bd E (fun _ => rfl)

end Wp

end Cert.Rows
-- ==== Proof.KernelIdeal.Mesh.lean ====
/-
  The mesh and the rows: a device's three coordinates, its peers along the three axes, and the closed
  forms of the row offsets and device numbers that the kernel computes.
-/
module

public import proofs.«01_k».proof.Proof.Rows
public import proofs.«01_k».proof.Proof.Gen.KernelIdeal
public import proofs.«01_k».proof.Proof.Gen.KernelIdeal.Skeleton

@[expose] public section

set_option maxRecDepth 16384

noncomputable section

namespace Cert.KernelIdealProof

open Cert.KernelIdeal Cert.KernelIdeal.Gen Cert.Rows

open Idealize.ShloMosaic Idealize.ShloMosaic.TcCoe

/-! ## Coordinates and peers -/

/-- The word whose exclusive or with a device's number moves it along axis `a`. -/
def gen (a : Fin 3) : ℕ := match a with | 0 => 1 | 1 => 3 | 2 => 4

set_option backward.proofsInPublic true in
/-- The device one step along axis `a`. -/
def peer (c : Dev nD) (a : Fin 3) : Dev nD := ⟨(c.val ^^^ gen a) % 8, Nat.mod_lt _ (by decide)⟩

/-- Coordinate `a` of a device: bit 0 plus bit 1, bit 1, bit 2. -/
def kb (c : Dev nD) (a : Fin 3) : ℕ := match a with | 0 => (c.val + c.val / 2) % 2 | 1 => c.val / 2 % 2 | 2 => c.val / 4 % 2

set_option backward.proofsInPublic true in
/-- The device of given coordinates. -/
def devOf (x : Fin 3 → ℕ) : Dev nD := ⟨((x 0 + x 1) % 2 + 2 * (x 1 % 2) + 4 * (x 2 % 2)) % 8, Nat.mod_lt _ (by decide)⟩

theorem peer_peer (c : Dev nD) (a : Fin 3) : peer (peer c a) a = c := by revert c a; decide
theorem kb_le (c : Dev nD) (a : Fin 3) : kb c a ≤ 1 := by revert c a; decide
theorem kb_peer (c : Dev nD) (a : Fin 3) : kb (peer c a) a = 1 - kb c a := by revert c a; decide
theorem kb_peer_ne (c : Dev nD) (a b : Fin 3) (h : a ≠ b) : kb (peer c a) b = kb c b := by revert c a b; decide
theorem devOf_kb (c : Dev nD) : devOf (kb c) = c := by revert c; decide

/-- A step along axis `a` as a permutation of the devices. -/
def across (a : Fin 3) : Dev nD ≃ Dev nD := ⟨fun c => peer c a, fun c => peer c a, fun c => peer_peer c a, fun c => peer_peer c a⟩

/-- The axis along which stage `s` of group `t`'s reduction runs, -/
def rsAx (t s : Fin 3) : Fin 3 := t + s
/-- and stage `s` of its gathering. -/
def agAx (t s : Fin 3) : Fin 3 := t + 2 - s

/-! ## Rows -/

/-- The first row device `c` keeps after stage `s` of group `t`. -/
def keep (c : Dev nD) (t s : Fin 3) : ℕ := match s with
  | 0 => 512 * t.val + 256 * kb c t
  | 1 => 512 * t.val + 256 * kb c t + 128 * kb c (t + 1)
  | 2 => 512 * t.val + 256 * kb c t + 128 * kb c (t + 1) + 64 * kb c (t + 2)

/-- The first row it gives away at stage `s`. -/
def give (c : Dev nD) (t s : Fin 3) : ℕ := match s with
  | 0 => 512 * t.val + 256 * (1 - kb c t)
  | 1 => 512 * t.val + 256 * kb c t + 128 * (1 - kb c (t + 1))
  | 2 => 512 * t.val + 256 * kb c t + 128 * kb c (t + 1) + 64 * (1 - kb c (t + 2))

/-- The number of rows of stage `s` of the reduction. -/
def rsN (s : Fin 3) : ℕ := match s with | 0 => 256 | 1 => 128 | 2 => 64
/-- The number of rows of stage `s` of the gathering. -/
def agN (s : Fin 3) : ℕ := match s with | 0 => 64 | 1 => 128 | 2 => 256

/-- The first row device `c` sends at stage `s` of group `t`'s gathering, -/
def agFrom (c : Dev nD) (t s : Fin 3) : ℕ := keep c t (2 - s)
/-- and the first it receives. -/
def agTo (c : Dev nD) (t s : Fin 3) : ℕ := give c t (2 - s)

theorem agFrom_le (c : Dev nD) (t s : Fin 3) : agFrom c t s + agN s ≤ 1536 := by revert c t s; decide
theorem agTo_le (c : Dev nD) (t s : Fin 3) : agTo c t s + agN s ≤ 1536 := by revert c t s; decide
theorem keep_le (c : Dev nD) (t s : Fin 3) : keep c t s + rsN s ≤ 1536 := by revert c t s; decide
theorem give_le (c : Dev nD) (t s : Fin 3) : give c t s + rsN s ≤ 1536 := by revert c t s; decide

/-- What a device sends in the gathering arrives where its peer receives. -/
theorem agTo_peer (c : Dev nD) (t s : Fin 3) : agTo (peer c (agAx t s)) t s = agFrom c t s := by revert c t s; decide
theorem agFrom_peer (c : Dev nD) (t s : Fin 3) : agFrom (peer c (agAx t s)) t s = agTo c t s := by revert c t s; decide
/-- What a device gives away in the reduction is what its peer keeps. -/
theorem give_peer (c : Dev nD) (t s : Fin 3) : give (peer c (rsAx t s)) t s = keep c t s := by revert c t s; decide

/-! ## The kernel's offsets -/

theorem off1_eq (c : Dev nD) : k0_off1 c = ![give c 0 0, 0] := by revert c; decide
theorem off2a_eq (c : Dev nD) : k0_off2 c 512#32 1#32 = ![give c 1 0, 0] := by revert c; decide
theorem off2b_eq (c : Dev nD) : k0_off2 c 1024#32 2#32 = ![give c 2 0, 0] := by revert c; decide
theorem off3_eq (c : Dev nD) : k0_off3 c = ![keep c 0 0, 0] := by revert c; decide
theorem off4_eq (c : Dev nD) : k0_off4 c = ![keep c 0 0, 0] := by revert c; decide
theorem off5a_eq (c : Dev nD) : k0_off5 c 512#32 1#32 = ![keep c 1 0, 0] := by revert c; decide
theorem off5b_eq (c : Dev nD) : k0_off5 c 1024#32 2#32 = ![keep c 2 0, 0] := by revert c; decide
theorem off6a_eq (c : Dev nD) : k0_off6 c 512#32 1#32 = ![keep c 1 0, 0] := by revert c; decide
theorem off6b_eq (c : Dev nD) : k0_off6 c 1024#32 2#32 = ![keep c 2 0, 0] := by revert c; decide
theorem off7_eq (c : Dev nD) : k0_off7 c = ![give c 0 1, 0] := by revert c; decide
theorem off8_eq (c : Dev nD) : k0_off8 c = ![give c 1 1, 0] := by revert c; decide
theorem off9_eq (c : Dev nD) : k0_off9 c = ![give c 2 1, 0] := by revert c; decide
theorem off10_eq (c : Dev nD) : k0_off10 c = ![keep c 0 1, 0] := by revert c; decide
theorem off11_eq (c : Dev nD) : k0_off11 c = ![give c 0 2, 0] := by revert c; decide
theorem off12_eq (c : Dev nD) : k0_off12 c = ![keep c 1 1, 0] := by revert c; decide
theorem off13_eq (c : Dev nD) : k0_off13 c = ![give c 1 2, 0] := by revert c; decide
theorem off14_eq (c : Dev nD) : k0_off14 c = ![keep c 2 1, 0] := by revert c; decide
theorem off15_eq (c : Dev nD) : k0_off15 c = ![give c 2 2, 0] := by revert c; decide
theorem off16_eq (c : Dev nD) : k0_off16 c = ![keep c 0 2, 0] := by revert c; decide
theorem off17_eq (c : Dev nD) : k0_off17 c = ![keep c 1 2, 0] := by revert c; decide
theorem off18_eq (c : Dev nD) : k0_off18 c = ![keep c 2 2, 0] := by revert c; decide
theorem off19_eq (c : Dev nD) : k0_off19 c = ![agFrom c 0 0, 0] := by revert c; decide
theorem off20_eq (c : Dev nD) : k0_off20 c = ![agFrom c 1 0, 0] := by revert c; decide
theorem off21_eq (c : Dev nD) : k0_off21 c = ![agFrom c 2 0, 0] := by revert c; decide
theorem off22_eq (c : Dev nD) : k0_off22 c = ![agFrom c 0 1, 0] := by revert c; decide
theorem off23_eq (c : Dev nD) : k0_off23 c = ![agFrom c 1 1, 0] := by revert c; decide
theorem off24_eq (c : Dev nD) : k0_off24 c = ![agFrom c 2 1, 0] := by revert c; decide
theorem off25_eq (c : Dev nD) : k0_off25 c = ![agFrom c 0 2, 0] := by revert c; decide
theorem off26_eq (c : Dev nD) : k0_off26 c = ![agFrom c 1 2, 0] := by revert c; decide
theorem off27_eq (c : Dev nD) : k0_off27 c = ![agFrom c 2 2, 0] := by revert c; decide

/-! ## The kernel's device numbers -/

theorem dev1_eq (c : Dev nD) : (⟨k0_dev1 c, k0_dev1_lt c⟩ : Dev nD) = peer c 0 := by revert c; decide
theorem dev2_eq (c : Dev nD) : (⟨k0_dev2 c, k0_dev2_lt c⟩ : Dev nD) = peer c 1 := by revert c; decide
theorem dev3_eq (c : Dev nD) : (⟨k0_dev3 c, k0_dev3_lt c⟩ : Dev nD) = peer c 2 := by revert c; decide
theorem dev4_eq (c : Dev nD) : (⟨k0_dev4 c, k0_dev4_lt c⟩ : Dev nD) = peer c (rsAx 0 0) := by revert c; decide
theorem dev5_eq (c : Dev nD) : (⟨k0_dev5 c, k0_dev5_lt c⟩ : Dev nD) = peer c (rsAx 1 0) := by revert c; decide
theorem dev6_eq (c : Dev nD) : (⟨k0_dev6 c, k0_dev6_lt c⟩ : Dev nD) = peer c (rsAx 2 0) := by revert c; decide
theorem dev7_eq (c : Dev nD) : (⟨k0_dev7 c, k0_dev7_lt c⟩ : Dev nD) = peer c (rsAx 0 1) := by revert c; decide
theorem dev8_eq (c : Dev nD) : (⟨k0_dev8 c, k0_dev8_lt c⟩ : Dev nD) = peer c (rsAx 1 1) := by revert c; decide
theorem dev9_eq (c : Dev nD) : (⟨k0_dev9 c, k0_dev9_lt c⟩ : Dev nD) = peer c (rsAx 2 1) := by revert c; decide
theorem dev10_eq (c : Dev nD) : (⟨k0_dev10 c, k0_dev10_lt c⟩ : Dev nD) = peer c (rsAx 0 2) := by revert c; decide
theorem dev11_eq (c : Dev nD) : (⟨k0_dev11 c, k0_dev11_lt c⟩ : Dev nD) = peer c (rsAx 1 2) := by revert c; decide
theorem dev12_eq (c : Dev nD) : (⟨k0_dev12 c, k0_dev12_lt c⟩ : Dev nD) = peer c (rsAx 2 2) := by revert c; decide
theorem dev13_eq (c : Dev nD) : (⟨k0_dev13 c, k0_dev13_lt c⟩ : Dev nD) = peer c (agAx 0 0) := by revert c; decide
theorem dev14_eq (c : Dev nD) : (⟨k0_dev14 c, k0_dev14_lt c⟩ : Dev nD) = peer c (agAx 1 0) := by revert c; decide
theorem dev15_eq (c : Dev nD) : (⟨k0_dev15 c, k0_dev15_lt c⟩ : Dev nD) = peer c (agAx 2 0) := by revert c; decide
theorem dev16_eq (c : Dev nD) : (⟨k0_dev16 c, k0_dev16_lt c⟩ : Dev nD) = peer c (agAx 0 1) := by revert c; decide
theorem dev17_eq (c : Dev nD) : (⟨k0_dev17 c, k0_dev17_lt c⟩ : Dev nD) = peer c (agAx 1 1) := by revert c; decide
theorem dev18_eq (c : Dev nD) : (⟨k0_dev18 c, k0_dev18_lt c⟩ : Dev nD) = peer c (agAx 2 1) := by revert c; decide
theorem dev19_eq (c : Dev nD) : (⟨k0_dev19 c, k0_dev19_lt c⟩ : Dev nD) = peer c (agAx 0 2) := by revert c; decide
theorem dev20_eq (c : Dev nD) : (⟨k0_dev20 c, k0_dev20_lt c⟩ : Dev nD) = peer c (agAx 1 2) := by revert c; decide
theorem dev21_eq (c : Dev nD) : (⟨k0_dev21 c, k0_dev21_lt c⟩ : Dev nD) = peer c (agAx 2 2) := by revert c; decide

/-! ## Semaphores -/

set_option backward.proofsInPublic true in
/-- The transfers' semaphores: family `k` (reduction: departures, arrivals; gathering: departures, arrivals), group `t`, stage `s`. -/
def dsem (k : Fin 4) (t s : Fin 3) : DmaSem sig := (⟨3 + 9 * k.val + 3 * t.val + s.val, by
  have := k.isLt; have := t.isLt; have := s.isLt; show _ < 39; omega⟩ : Fin 39)

abbrev sq (q : DmaSems sig S3x3) (o : Fin 2 → ℕ) (inb : ∀ a, o a + S1x1.size a ≤ S3x3.size a) : DmaSem sig :=
  ((q.slice (Rect.unit (s := S3x3) o S1x1.size inb)).squeeze S_ squeezes_S1x1_S_).sem

theorem sem7_eq (t s : Fin 3) (inb : ∀ a, (![t.val, s.val] : Fin 2 → ℕ) a + S1x1.size a ≤ S3x3.size a) : sq cc0_scratch7 ![t.val, s.val] inb = dsem 0 t s := by
  revert t s; decide
theorem sem8_eq (t s : Fin 3) (inb : ∀ a, (![t.val, s.val] : Fin 2 → ℕ) a + S1x1.size a ≤ S3x3.size a) : sq cc0_scratch8 ![t.val, s.val] inb = dsem 1 t s := by
  revert t s; decide
theorem sem9_eq (t s : Fin 3) (inb : ∀ a, (![t.val, s.val] : Fin 2 → ℕ) a + S1x1.size a ≤ S3x3.size a) : sq cc0_scratch9 ![t.val, s.val] inb = dsem 2 t s := by
  revert t s; decide
theorem sem10_eq (t s : Fin 3) (inb : ∀ a, (![t.val, s.val] : Fin 2 → ℕ) a + S1x1.size a ≤ S3x3.size a) : sq cc0_scratch10 ![t.val, s.val] inb = dsem 3 t s := by
  revert t s; decide

end Cert.KernelIdealProof
-- ==== Proof.KernelIdeal.Values.lean ====
/-
  What the kernel computes, as arrays: the partial products of a device, the partial sums exchanged in
  the three stages of the reduction, the activated rows a device ends the reduction with, and the whole
  result those rows are pieces of.
-/
module

public import proofs.«01_k».proof.Proof.KernelIdeal.Mesh
public import Idealize.ShloMosaic.Lib.Pipeline.Value

@[expose] public section

set_option maxRecDepth 16384

noncomputable section

namespace Cert.KernelIdealProof

open Cert.KernelIdeal Cert.KernelIdeal.Gen Cert.Rows

open Idealize.ShloMosaic Idealize.ShloMosaic.TcCoe

variable {F : FTy → Type} [FloatOps F]

/-! ## The stored forms of one array -/

/-- A recast to a one-slot array is the slot of the array. -/
theorem cast_up {α : Type} {n : ℕ} (X : (R n).Idx → α) (h : (R n).ShapeCasts (⟨3, ![1, n, 1536]⟩ : Shape)) :
    shapeCast (⟨3, ![1, n, 1536]⟩ : Shape) X h = up X := by
  funext j
  refine (congrArg _ (?_ : j = ix3 (j 0) (j 1) (j 2))).trans (ValueIdx.shapeCast_ab_1ab_apply X h (j 0) (j 1) (j 2))
  funext a
  match a with
  | ⟨0, _⟩ => rfl
  | ⟨1, _⟩ => rfl
  | ⟨2, _⟩ => rfl

/-- A recast of a slot is the array it holds. -/
theorem cast_slot {α : Type} {n : ℕ} (X : (R n).Idx → α) (h : (⟨3, ![1, n, 1536]⟩ : Shape).ShapeCasts (R n)) :
    shapeCast (R n) (up X) h = X := by
  funext j
  have hj : j = ix2 (j 0) (j 1) := by
    funext a
    match a with
    | ⟨0, _⟩ => rfl
    | ⟨1, _⟩ => rfl
  exact (congrArg _ hj).trans ((ValueIdx.shapeCast_1ab_ab_apply (up X) h (j 0) (j 1)).trans (congrArg X hj.symm))

/-- The narrowed product in its stored form: the kernel spells it three ways. -/
theorem pay3_eq (x : Vec F S256x768 .f32) (y : Vec F S768x1536 .f32) :
    k0_pay3 (k0_pay1 x) (k0_pay2 y) (constant S256x1536 .f32 0x00000000#32) = up (k0_pay4 x y) := cast_up _ _
theorem pay5_eq (x : FVec F S256x1536 .bf16) : k0_pay5 x = up x := cast_up _ _
theorem pay6_eq (x : Vec F S256x768 .f32) (y : Vec F S768x1536 .f32) : k0_pay6 x y = up (k0_pay4 x y) := cast_up _ _

/-- Narrowing of half a partial sum, and of a quarter. -/
def nar128 (x : Vec F S128x1536 .f32) : FVec F S128x1536 .bf16 := truncf .bf16 x bitsLt_bf16_f32
def nar64 (x : Vec F S64x1536 .f32) : FVec F S64x1536 .bf16 := truncf .bf16 x bitsLt_bf16_f32

theorem pay13_eq (x : Vec F S128x1536 .f32) : k0_pay13 x = up (nar128 x) := by
  unfold k0_pay13 nar128
  simp only [shapeCast_self]
  exact cast_up _ _
theorem pay15_eq (x : Vec F S128x1536 .f32) : k0_pay15 x = up (nar128 x) := pay13_eq x
theorem pay17_eq (x : Vec F S128x1536 .f32) : k0_pay17 x = up (nar128 x) := pay13_eq x
theorem pay19_eq (x : Vec F S64x1536 .f32) : k0_pay19 x = up (nar64 x) := by
  unfold k0_pay19 nar64
  simp only [shapeCast_self]
  exact cast_up _ _
theorem pay21_eq (x : Vec F S64x1536 .f32) : k0_pay21 x = up (nar64 x) := pay19_eq x
theorem pay23_eq (x : Vec F S64x1536 .f32) : k0_pay23 x = up (nar64 x) := pay19_eq x

theorem pay8_eq (x : Vec F S256x768 .f32) (y : Vec F S768x1536 .f32) : k0_pay8 x y = k0_pay7 x y := rfl
theorem pay11_eq (x : Vec F S256x768 .f32) (y : Vec F S768x1536 .f32) : k0_pay11 (k0_pay9 x) (k0_pay10 y) = k0_pay7 x y := rfl
theorem pay14_eq (x : Vec F S256x1536 .f32) (y : Vec F S1x256x1536 .bf16) : k0_pay14 x y = k0_pay12 x y := rfl
theorem pay16_eq (x : Vec F S256x1536 .f32) (y : Vec F S1x256x1536 .bf16) : k0_pay16 x y = k0_pay12 x y := rfl
theorem pay20_eq (x : Vec F S128x1536 .f32) (y : Vec F S1x128x1536 .bf16) : k0_pay20 x y = k0_pay18 x y := rfl
theorem pay22_eq (x : Vec F S128x1536 .f32) (y : Vec F S1x128x1536 .bf16) : k0_pay22 x y = k0_pay18 x y := rfl
theorem pay27_eq (x : Vec F S64x1536 .f32) (y : Vec F S1x64x1536 .bf16) :
    k0_pay27 (k0_pay25 x y) (k0_pay26 x y) (Scalar.ofBits .f32 0x3F4C422A#32) = k0_pay30 x y := rfl
theorem pay29_eq (x : Vec F S64x1536 .f32) (y : Vec F S1x64x1536 .bf16) : k0_pay29 (k0_pay28 x) y = k0_pay30 x y := rfl

/-! ## The values -/

variable (A : Dev nD → Vec F S1536x768 .f32) (B : Dev nD → Vec F S768x1536 .f32)

/-- Rows `r … r + 255` of device `c`'s first operand. -/
def ablk (c : Dev nD) (r : ℕ) (h : r + 256 ≤ 1536) : Vec F S256x768 .f32 :=
  fun j => A c (ix2 ⟨r + (j 0).val, Nat.lt_of_lt_of_le (Nat.add_lt_add_left (j 0).isLt r) h⟩ (j 1))

/-- Those rows of device `c`'s partial product. -/
def prodAt (c : Dev nD) (r : ℕ) (h : r + 256 ≤ 1536) : FVec F S256x1536 .f32 := k0_pay7 (ablk A c r h) (B c)

theorem le0 (c : Dev nD) (t : Fin 3) : 128 * kb c t + 128 ≤ 256 := by have := kb_le c t; omega
theorem le0' (c : Dev nD) (t : Fin 3) : 128 * (1 - kb c t) + 128 ≤ 256 := by omega
theorem le1 (c : Dev nD) (t : Fin 3) : 64 * kb c t + 64 ≤ 128 := by have := kb_le c t; omega
theorem le1' (c : Dev nD) (t : Fin 3) : 64 * (1 - kb c t) + 64 ≤ 128 := by omega

/-- What device `c` sends at stage 0 of group `t`: the narrowed product of the rows it gives away; -/
def sv0 (c : Dev nD) (t : Fin 3) : FVec F S256x1536 .bf16 := k0_pay4 (ablk A c (give c t 0) (give_le c t 0)) (B c)
/-- its sum after stage 0; -/
def z0 (c : Dev nD) (t : Fin 3) : FVec F S256x1536 .f32 :=
  k0_pay12 (prodAt A B c (keep c t 0) (keep_le c t 0)) (up (sv0 A B (peer c (rsAx t 0)) t))
/-- what it sends at stage 1: the half of it that it gives away; -/
def sv1 (c : Dev nD) (t : Fin 3) : FVec F S128x1536 .bf16 := nar128 (seg (128 * (1 - kb c (t + 1))) 128 (le0' c (t + 1)) (z0 A B c t))
/-- its sum after stage 1; -/
def z1 (c : Dev nD) (t : Fin 3) : FVec F S128x1536 .f32 :=
  k0_pay18 (seg (128 * kb c (t + 1)) 128 (le0 c (t + 1)) (z0 A B c t)) (up (sv1 A B (peer c (rsAx t 1)) t))
/-- what it sends at stage 2; -/
def sv2 (c : Dev nD) (t : Fin 3) : FVec F S64x1536 .bf16 := nar64 (seg (64 * (1 - kb c (t + 2))) 64 (le1' c (t + 2)) (z1 A B c t))
/-- and the rows it ends the reduction with, activated and narrowed. -/
def act (c : Dev nD) (t : Fin 3) : FVec F S64x1536 .bf16 :=
  k0_pay30 (seg (64 * kb c (t + 2)) 64 (le1 c (t + 2)) (z1 A B c t)) (up (sv2 A B (peer c (rsAx t 2)) t))

/-- What is sent at stage `s`. -/
def sv (c : Dev nD) (t : Fin 3) : (s : Fin 3) → (R (rsN s)).Idx → Elt F .bf16
  | 0 => sv0 A B c t
  | 1 => sv1 A B c t
  | 2 => sv2 A B c t

/-! ## The whole -/

/-- The coordinates of the device that ends the reduction with row `r` of group `t`. -/
def bitOf (t : Fin 3) (r : ℕ) (a : Fin 3) : ℕ := r / 64 % 8 / (match a - t with | 0 => 4 | 1 => 2 | 2 => 1) % 2

/-- The group of a row, -/
def grp (i : (R 1536).Idx) : Fin 3 := ⟨(i 0).val / 512, by have : (i 0).val < 1536 := (i 0).isLt; omega⟩
/-- and its place among a device's 64. -/
def inPiece (i : (R 1536).Idx) : (R 64).Idx := ix2 ⟨(i 0).val % 64, Nat.mod_lt _ (by decide)⟩ (i 1)

/-- The whole result. -/
def whole (i : (R 1536).Idx) : Elt F .bf16 := act A B (devOf (bitOf (grp i) (i 0).val)) (grp i) (inPiece i)

/-- The rows of a device and a group are that device's and that group's. -/
theorem devOf_bit (c : Dev nD) (t : Fin 3) : devOf (bitOf t (keep c t 2)) = c := by revert c t; decide
theorem keep_div (c : Dev nD) (t : Fin 3) : keep c t 2 / 512 = t.val := by revert c t; decide
theorem keep_dvd (c : Dev nD) (t : Fin 3) : keep c t 2 % 64 = 0 := by revert c t; decide

/-- The rows a device ends the reduction with are its rows of the whole. -/
theorem act_eq (c : Dev nD) (t : Fin 3) (h : keep c t 2 + 64 ≤ 1536) : act A B c t = seg (keep c t 2) 64 h (whole A B) := by
  funext j
  have hj : (j 0).val < 64 := (j 0).isLt
  have hd := keep_dvd c t
  have hq := keep_div c t
  have hi : (keep c t 2 + (j 0).val) / 64 = keep c t 2 / 64 := by omega
  show _ = act A B (devOf (bitOf (grp _) (keep c t 2 + (j 0).val))) (grp _) (inPiece _)
  have hg : grp (ix2 ⟨keep c t 2 + (j 0).val, Nat.lt_of_lt_of_le (Nat.add_lt_add_left (j 0).isLt _) h⟩ (j 1)) = t :=
    Fin.ext (by show (keep c t 2 + (j 0).val) / 512 = t.val; omega)
  rw [hg]
  have hb : bitOf t (keep c t 2 + (j 0).val) = bitOf t (keep c t 2) := by
    funext a; unfold bitOf; rw [hi]
  rw [hb, devOf_bit]
  refine congrArg _ (funext fun a => Fin.ext ?_)
  match a with
  | ⟨0, _⟩ => show (j 0).val = (keep c t 2 + (j 0).val) % 64; omega
  | ⟨1, _⟩ => rfl

end Cert.KernelIdealProof
-- ==== Proof.KernelIdeal.Proto.lean ====
/-
  The protocol: which semaphore cells the kernel uses, who credits each and what the credit hands over,
  in what order a device pays, and the level of each cell.

  Every device credits the barrier of its three peers. With each unit it hands the peer the landing slots
  and the rows of its result buffer that the peer's transfers along that axis will write. A transfer's
  arrival hands over the written memory at its contents; its departure hands back the source.
-/
module

public import proofs.«01_k».proof.Proof.KernelIdeal.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdealProof

open Cert.KernelIdeal Cert.KernelIdeal.Gen Cert.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers -/

abbrev S3 (n : ℕ) : Shape := ⟨3, ![3, n, 1536]⟩
abbrev S1 (n : ℕ) : Shape := ⟨3, ![1, n, 1536]⟩

theorem inb_slot (n : ℕ) (t : Fin 3) : ∀ a, (![t.val, 0, 0] : Fin 3 → ℕ) a + (S1 n).size a ≤ (S3 n).size a := fun a =>
  match a with
  | ⟨0, _⟩ => t.isLt
  | ⟨1, _⟩ => Nat.le_of_eq (Nat.zero_add _)
  | ⟨2, _⟩ => Nat.le_refl _

/-- Slot `t` of a three-slot buffer. -/
abbrev slot {n : ℕ} (m : Memref sig .tc .vmem (S3 n) .bf16) (t : Fin 3) : Memref sig .tc .vmem (S1 n) .bf16 :=
  m.slice (Rect.unit (s := S3 n) ![t.val, 0, 0] (S1 n).size (inb_slot n t)) (fun _ => rfl)

/-- The buffers sent from and landed in at each stage of the reduction, -/
abbrev sbM : (s : Fin 3) → Memref sig .tc .vmem (S3 (rsN s)) .bf16
  | 0 => Memref.whole cc0_scratch0
  | 1 => Memref.whole cc0_scratch1
  | 2 => Memref.whole cc0_scratch2
abbrev rbM : (s : Fin 3) → Memref sig .tc .vmem (S3 (rsN s)) .bf16
  | 0 => Memref.whole cc0_scratch3
  | 1 => Memref.whole cc0_scratch4
  | 2 => Memref.whole cc0_scratch5
/-- and the buffer of the gathering. -/
abbrev agM : Memref sig .tc .vmem (R 1536) .bf16 := Memref.whole cc0_scratch6

/-- Device `c` holds a slot of a sending buffer, -/
def sb (c : Dev nD) (t s : Fin 3) (X : (S1 (rsN s)).Idx → Elt F .bf16) : sProp 𝕄 := owns (c : Thread nD τ) (slot (sbM s) t) fullShare X
def sbAny (c : Dev nD) (t s : Fin 3) : sProp 𝕄 := iprop(∃ X, sb (F := F) c t s X)
/-- a slot of a landing buffer, -/
def rb (c : Dev nD) (t s : Fin 3) (X : (S1 (rsN s)).Idx → Elt F .bf16) : sProp 𝕄 := owns (c : Thread nD τ) (slot (rbM s) t) fullShare X
def rbAny (c : Dev nD) (t s : Fin 3) : sProp 𝕄 := iprop(∃ X, rb (F := F) c t s X)
/-- rows of the gathering's buffer. -/
def ag (c : Dev nD) (r n : ℕ) (h : r + n ≤ 1536) (X : (R n).Idx → Elt F .bf16) : sProp 𝕄 := rows (c : Thread nD τ) agM r n h X
def agAny (c : Dev nD) (r n : ℕ) (h : r + n ≤ 1536) : sProp 𝕄 := rowsAny (c : Thread nD τ) agM r n h

omit [FloatOps F] in
instance sb_storable (c : Dev nD) (t s : Fin 3) (X) : BI.Storable (upEmb : UEmb _ 𝕄) (sb (F := F) c t s X) := by unfold sb; infer_instance
omit [FloatOps F] in
instance sbAny_storable (c : Dev nD) (t s : Fin 3) : BI.Storable (upEmb : UEmb _ 𝕄) (sbAny (F := F) c t s) := by unfold sbAny; infer_instance
omit [FloatOps F] in
instance rb_storable (c : Dev nD) (t s : Fin 3) (X) : BI.Storable (upEmb : UEmb _ 𝕄) (rb (F := F) c t s X) := by unfold rb; infer_instance
omit [FloatOps F] in
instance rbAny_storable (c : Dev nD) (t s : Fin 3) : BI.Storable (upEmb : UEmb _ 𝕄) (rbAny (F := F) c t s) := by unfold rbAny; infer_instance
omit [FloatOps F] in
instance ag_storable (c : Dev nD) (r n h X) : BI.Storable (upEmb : UEmb _ 𝕄) (ag (F := F) c r n h X) := by unfold ag; infer_instance
omit [FloatOps F] in
instance agAny_storable (c : Dev nD) (r n h) : BI.Storable (upEmb : UEmb _ 𝕄) (agAny (F := F) c r n h) := by unfold agAny; infer_instance

/-! ## Cells -/

/-- The runtime's barrier semaphore. -/
abbrev barS : Sem sig := (SemArray.scalar (sig.barrier 0 rfl) : Sems sig S_).sem

abbrev barCell (c : Dev nD) : GSem nD τ sig := ((c : Thread nD τ), .reg barS)
abbrev cell (c : Dev nD) (k : Fin 4) (t s : Fin 3) : GSem nD τ sig := ((c : Thread nD τ), .dma (dsem k t s))

/-- A transfer's semaphore names its family, its group and its stage. -/
def kOf (q : DmaSem sig) : Fin 4 := ⟨((q : Fin 39).val - 3) / 9 % 4, Nat.mod_lt _ (by decide)⟩
def tOf (q : DmaSem sig) : Fin 3 := ⟨((q : Fin 39).val - 3) / 3 % 3, Nat.mod_lt _ (by decide)⟩
def sOf (q : DmaSem sig) : Fin 3 := ⟨((q : Fin 39).val - 3) % 3, Nat.mod_lt _ (by decide)⟩

theorem kOf_dsem (k : Fin 4) (t s : Fin 3) : kOf (dsem k t s) = k := by revert k t s; decide
theorem tOf_dsem (k : Fin 4) (t s : Fin 3) : tOf (dsem k t s) = t := by revert k t s; decide
theorem sOf_dsem (k : Fin 4) (t s : Fin 3) : sOf (dsem k t s) = s := by revert k t s; decide
theorem dsem_ge (k : Fin 4) (t s : Fin 3) : 3 ≤ (dsem k t s : Fin 39).val := by revert k t s; decide

theorem dsem_inj {k k' : Fin 4} {t t' s s' : Fin 3} (h : dsem k t s = dsem k' t' s') : k = k' ∧ t = t' ∧ s = s' :=
  ⟨by rw [← kOf_dsem k t s, h, kOf_dsem], by rw [← tOf_dsem k t s, h, tOf_dsem], by rw [← sOf_dsem k t s, h, sOf_dsem]⟩

theorem cell_inj {c c' : Dev nD} {k k' : Fin 4} {t t' s s' : Fin 3} (h : cell c k t s = cell c' k' t' s') :
    c = c' ∧ k = k' ∧ t = t' ∧ s = s' :=
  ⟨congrArg (fun g : GSem nD τ sig => g.1.1) h, dsem_inj (by have := congrArg Prod.snd h; exact SemLoc.dma.inj this)⟩

theorem cell_ne_bar (c c' : Dev nD) (k : Fin 4) (t s : Fin 3) : cell c k t s ≠ barCell c' := fun h => by
  have := congrArg Prod.snd h; cases this

theorem barCell_inj {c c' : Dev nD} (h : barCell c = barCell c') : c = c' := congrArg (fun g : GSem nD τ sig => g.1.1) h

/-- The credit of a transfer of `n` rows. -/
def cr (n : ℕ) : ℕ := RefSig.tileCredit (R n) .bf16

theorem credit_eq {n : ℕ} (v : View sig .tc .vmem (R n) .bf16) : v.dmaCredit = cr n := rfl

theorem cr_pos {n : ℕ} (h : 0 < n) : 0 < cr n := RefSig.tileCredit_pos _ _ (by
  show 0 < (R n).numel
  rw [show (R n).numel = n * 1536 from by simp [Shape.numel, Fin.prod_univ_two]]
  omega)

/-- The rows of a transfer. -/
def rowsOf (k : Fin 4) (s : Fin 3) : ℕ := match k with | 0 => rsN s | 1 => rsN s | 2 => agN s | 3 => agN s
theorem rowsOf_pos (k : Fin 4) (s : Fin 3) : 0 < rowsOf k s := by revert k s; decide

/-! ## The schedule -/

variable (A : Dev nD → Vec F S1536x768 .f32) (B : Dev nD → Vec F S768x1536 .f32)

/-- What device `p` gives a peer along axis `a` at the barrier: the landing slots and the rows that the peer's transfers write. -/
def barPay (p : Dev nD) (a : Fin 3) : sProp 𝕄 := match a with
  | 0 => iprop(rbAny (F := F) p 0 0 ∗ rbAny (F := F) p 2 1 ∗ rbAny (F := F) p 1 2
      ∗ agAny (F := F) p (agTo p 1 0) (agN 0) (agTo_le p 1 0) ∗ agAny (F := F) p (agTo p 2 1) (agN 1) (agTo_le p 2 1) ∗ agAny (F := F) p (agTo p 0 2) (agN 2) (agTo_le p 0 2))
  | 1 => iprop(rbAny (F := F) p 1 0 ∗ rbAny (F := F) p 0 1 ∗ rbAny (F := F) p 2 2
      ∗ agAny (F := F) p (agTo p 2 0) (agN 0) (agTo_le p 2 0) ∗ agAny (F := F) p (agTo p 0 1) (agN 1) (agTo_le p 0 1) ∗ agAny (F := F) p (agTo p 1 2) (agN 2) (agTo_le p 1 2))
  | 2 => iprop(rbAny (F := F) p 2 0 ∗ rbAny (F := F) p 1 1 ∗ rbAny (F := F) p 0 2
      ∗ agAny (F := F) p (agTo p 0 0) (agN 0) (agTo_le p 0 0) ∗ agAny (F := F) p (agTo p 1 1) (agN 1) (agTo_le p 1 1) ∗ agAny (F := F) p (agTo p 2 2) (agN 2) (agTo_le p 2 2))

/-- What a transfer's completion hands the device whose cell it credits. -/
def dmaPay (c : Dev nD) (k : Fin 4) (t s : Fin 3) : sProp 𝕄 := match k with
  | 0 => sbAny (F := F) c t s
  | 1 => rb c t s (up (sv A B (peer c (rsAx t s)) t s))
  | 2 => ag c (agFrom c t s) (agN s) (agFrom_le c t s) (seg (agFrom c t s) (agN s) (agFrom_le c t s) (whole A B))
  | 3 => ag c (agTo c t s) (agN s) (agTo_le c t s) (seg (agTo c t s) (agN s) (agTo_le c t s) (whole A B))

omit [FloatOps F] in
instance barPay_storable (p : Dev nD) (a : Fin 3) : BI.Storable (upEmb : UEmb _ 𝕄) (barPay (F := F) p a) := by
  unfold barPay; split <;> infer_instance
instance dmaPay_storable (c : Dev nD) (k : Fin 4) (t s : Fin 3) : BI.Storable (upEmb : UEmb _ 𝕄) (dmaPay A B c k t s) := by
  unfold dmaPay; split <;> infer_instance

/-- The duties of a cell's one round: a barrier has one per axis, a transfer's cell one. -/
def dutiesOf (sm : SemLoc sig) : Finset (Fin 3) := match sm with
  | .reg _ => Finset.univ
  | .dma q => if 3 ≤ (q : Fin 39).val then {0} else ∅
def amountOf (sm : SemLoc sig) : ℕ := match sm with
  | .reg _ => 1
  | .dma q => cr (rowsOf (kOf q) (sOf q))
def payOf (c : Dev nD) (sm : SemLoc sig) (a : Fin 3) : sProp 𝕄 := match sm with
  | .reg _ => barPay (F := F) (peer c a) a
  | .dma q => dmaPay A B c (kOf q) (tOf q) (sOf q)

/-- The schedule: one round. -/
def sched : Rounds.Schedule (GSem nD τ sig) (Fin 3) 𝕄 where
  duties g r := if r = 0 ∧ g.1.2 = .tc then dutiesOf g.2 else ∅
  unitless _ := False
  amount g _ _ := amountOf g.2
  payload g _ d := payOf A B g.1.1 g.2 d
  amount_pos g _ _ _ := by
    rcases g with ⟨_, _ | _⟩
    · exact Nat.one_pos
    · exact cr_pos (rowsOf_pos _ _)

instance sched_storable (g : GSem nD τ sig) (r : ℕ) (d : Fin 3) : BI.Storable (upEmb : UEmb _ 𝕄) ((sched A B).payload g r d) := by
  show BI.Storable upEmb (payOf A B g.1.1 g.2 d)
  rcases g with ⟨_, _ | _⟩
  · exact barPay_storable _ _
  · exact dmaPay_storable _ _ _ _ _ _

section Sched

variable (c : Dev nD) (k : Fin 4) (t s : Fin 3)

theorem duties_bar : (sched A B).duties (barCell c) 0 = Finset.univ := by dsimp only [sched]; exact if_pos ⟨rfl, rfl⟩
theorem duties_cell : (sched A B).duties (cell c k t s) 0 = {0} := by
  dsimp only [sched]; exact (if_pos ⟨rfl, rfl⟩).trans (if_pos (dsem_ge k t s))
theorem duties_later (g : GSem nD τ sig) : ∀ r, 1 ≤ r → (sched A B).duties g r = ∅ := fun r hr => by
  dsimp only [sched]; exact if_neg fun h => by omega
theorem amount_bar (d : Fin 3) : (sched A B).amount (barCell c) 0 d = 1 := rfl
theorem amount_cell (d : Fin 3) : (sched A B).amount (cell c k t s) 0 d = cr (rowsOf k s) := by
  show cr (rowsOf (kOf (dsem k t s)) (sOf (dsem k t s))) = _
  rw [kOf_dsem, sOf_dsem]
theorem payload_bar (d : Fin 3) : (sched A B).payload (barCell c) 0 d = barPay (F := F) (peer c d) d := rfl
theorem payload_cell (d : Fin 3) : (sched A B).payload (cell c k t s) 0 d = dmaPay A B c k t s := by
  show dmaPay A B c (kOf (dsem k t s)) (tOf (dsem k t s)) (sOf (dsem k t s)) = _
  rw [kOf_dsem, tOf_dsem, sOf_dsem]

theorem expect_bar : (sched A B).expect (barCell c) 0 = 3 := by
  unfold Schedule.expect Schedule.amountOf
  rw [duties_bar, Finset.sum_congr rfl fun d _ => amount_bar A B c d, Finset.sum_const, Finset.card_univ, Fintype.card_fin, smul_eq_mul]
theorem expect_cell : (sched A B).expect (cell c k t s) 0 = cr (rowsOf k s) := by
  unfold Schedule.expect Schedule.amountOf
  rw [duties_cell, Finset.sum_singleton, amount_cell]

theorem rest_bar : bigSep ((sched A B).duties (barCell c) 0 \ ∅) (fun d => (sched A B).payload (barCell c) 0 d)
    = iprop(barPay (F := F) (peer c 0) 0 ∗ barPay (F := F) (peer c 1) 1 ∗ barPay (F := F) (peer c 2) 2) := by
  rw [Finset.sdiff_empty, duties_bar, bigSep_univ_eq_bigSepL [0, 1, 2] (by decide) (by decide)]
  rfl
theorem rest_cell : bigSep ((sched A B).duties (cell c k t s) 0 \ ∅) (fun d => (sched A B).payload (cell c k t s) 0 d) = dmaPay A B c k t s := by
  rw [Finset.sdiff_empty, duties_cell, bigSep_singleton, payload_cell]

end Sched

/-! ## What a device pays, in order -/

/-- What a list of payments amounts to. -/
def tally : List (GSem nD τ sig × ℕ) → CellTallies nD τ sig Unit
  | [] => 0
  | p :: l => tally l + tallyAt p.1 () p.2

theorem tally_pos {l : List (GSem nD τ sig × ℕ)} {g : GSem nD τ sig} {u : Unit} (h : 0 < tally l g u) : ∃ p ∈ l, p.1 = g := by
  induction l with
  | nil => exact absurd h (Nat.lt_irrefl 0)
  | cons p l ih =>
    by_cases hp : p.1 = g
    · exact ⟨p, List.mem_cons_self, hp⟩
    · have h' : 0 < tally l g u := by
        unfold tally at h
        rw [Pi.add_apply, Finsupp.add_apply, tallyAt_apply, if_neg (fun h' => hp h'.1.symm)] at h
        exact h
      obtain ⟨q, hq, e⟩ := ih h'
      exact ⟨q, List.mem_cons_of_mem _ hq, e⟩

/-- A stage's payments: the peer's arrival cell. -/
abbrev payRs (c : Dev nD) (t s : Fin 3) : GSem nD τ sig × ℕ := (cell (peer c (rsAx t s)) 1 t s, cr (rsN s))
abbrev payAg (c : Dev nD) (t s : Fin 3) : GSem nD τ sig × ℕ := (cell (peer c (agAx t s)) 3 t s, cr (agN s))
abbrev payBar (c : Dev nD) (a : Fin 3) : GSem nD τ sig × ℕ := (barCell (peer c a), 1)

/-- Device `c`'s payments in the order it makes them. -/
def pays (c : Dev nD) : List (GSem nD τ sig × ℕ) :=
  [payBar c 0, payBar c 1, payBar c 2,
   payRs c 0 0, payRs c 1 0, payRs c 2 0, payRs c 0 1, payRs c 1 1, payRs c 2 1, payRs c 0 2, payRs c 1 2, payRs c 2 2,
   payAg c 0 0, payAg c 1 0, payAg c 2 0, payAg c 0 1, payAg c 1 1, payAg c 2 1, payAg c 0 2, payAg c 1 2, payAg c 2 2]

/-- What it owes after the first `k`. -/
def owed (c : Dev nD) (k : ℕ) : CellTallies nD τ sig Unit := tally ((pays c).drop k)

theorem owed_bar (c : Dev nD) (a : Fin 3) : owed c a.val = owed c (a.val + 1) + tallyAt (barCell (peer c a)) () 1 := by
  fin_cases a <;> rfl
theorem owed_rs (c : Dev nD) (t s : Fin 3) :
    owed c (3 + 3 * s.val + t.val) = owed c (3 + 3 * s.val + t.val + 1) + tallyAt (cell (peer c (rsAx t s)) 1 t s) () (cr (rsN s)) := by
  fin_cases s <;> fin_cases t <;> rfl
theorem owed_ag (c : Dev nD) (t s : Fin 3) :
    owed c (12 + 3 * s.val + t.val) = owed c (12 + 3 * s.val + t.val + 1) + tallyAt (cell (peer c (agAx t s)) 3 t s) () (cr (agN s)) := by
  fin_cases s <;> fin_cases t <;> rfl
theorem owed_end (c : Dev nD) : owed c 21 = 0 := rfl

/-! ## Levels -/

def L (g : GSem nD τ sig) : Finset Unit := if g.1.2 = .tc then {()} else ∅

/-- Departures and staging lowest, then the barrier, then the arrivals stage by stage. -/
def lvS (sm : SemLoc sig) : ℕ := match sm with
  | .reg _ => 1
  | .dma q => if 3 ≤ (q : Fin 39).val then (match kOf q with | 0 => 0 | 1 => 2 + (sOf q).val | 2 => 0 | 3 => 5 + (sOf q).val) else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_dsem (k : Fin 4) (t s : Fin 3) :
    lvS (.dma (dsem k t s)) = (match k with | 0 => 0 | 1 => 2 + s.val | 2 => 0 | 3 => 5 + s.val) := by
  show (if 3 ≤ (dsem k t s : Fin 39).val then _ else 0) = _
  rw [if_pos (dsem_ge k t s), kOf_dsem, sOf_dsem]

/-- The levels of the cells a device pays, in order. -/
def lvls : List ℕ := [1, 1, 1, 2, 2, 2, 3, 3, 3, 4, 4, 4, 5, 5, 5, 6, 6, 6, 7, 7, 7]

theorem pays_lv (c : Dev nD) : (pays c).map (fun p => lvS p.1.2) = lvls := by
  simp only [pays, List.map_cons, List.map_nil, lvS_dsem]
  rfl
theorem pays_tc (c : Dev nD) : ∀ p ∈ pays c, p.1.1.2 = .tc := by
  intro p hp
  simp only [pays, List.mem_cons, List.not_mem_nil, or_false] at hp
  rcases hp with h | h | h | h | h | h | h | h | h | h | h | h | h | h | h | h | h | h | h | h | h <;> (subst h; rfl)

omit [FloatOps F] in
/-- A device may wait on a cell below all it still has to pay. -/
theorem mayWait (c : Dev nD) (sm : SemLoc sig) (k : ℕ) (h : ∀ x ∈ lvls.drop k, lvS sm < x) :
    (levAts L lv : sProp 𝕄) ⊢ MayWait (c : Thread nD τ) sm () (owed c k) :=
  MayOwe.of_cut (L := L) (lev := lv) (lvS sm)
    (fun p hp => by rw [Finset.mem_singleton.mp hp, L_tc]; exact Finset.mem_singleton_self _)
    (fun g u hg => by
      obtain ⟨p, hp, rfl⟩ := tally_pos hg
      unfold L; rw [if_pos (pays_tc c p (List.mem_of_mem_drop hp))]; exact Finset.mem_singleton_self _)
    (fun p hp => by rw [Finset.mem_singleton.mp hp]; exact Nat.le_refl _)
    (fun g u hg => by
      obtain ⟨p, hp, rfl⟩ := tally_pos hg
      refine h _ ?_
      rw [← pays_lv c, ← List.map_drop]
      exact List.mem_map.mpr ⟨p, hp, rfl⟩)

end Cert.KernelIdealProof
-- ==== Proof.KernelIdeal.Steps.lean ====
/-
  One rule for each kind of operation the kernel performs on its cells: a barrier signal, the barrier
  wait, a transfer's start, a wait for a departure or an arrival; and the states a stage of a group goes
  through under them.
-/
module

public import proofs.«01_k».proof.Proof.KernelIdeal.Proto

@[expose] public section

set_option maxRecDepth 16384

noncomputable section

namespace Cert.KernelIdealProof

open Cert.KernelIdeal Cert.KernelIdeal.Gen Cert.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (A : Dev nD → Vec F S1536x768 .f32) (B : Dev nD → Vec F S768x1536 .f32)

/-- A transfer's cell within a device: family, group, stage. -/
abbrev Cx : Type := Fin 4 × Fin 3 × Fin 3

variable (K : Dev nD × Cx → ℕ) (Kb : Dev nD → ℕ)

/-- What every device knows throughout: every cell's invariant, that every cell has reached its round, and the levels. -/
def records : sProp 𝕄 :=
  iprop((bigSep Finset.univ fun x : Dev nD × Cx => cellInv ER (sched A B) (K x) (cell x.1 x.2.1 x.2.2.1 x.2.2.2))
    ∗ (bigSep Finset.univ fun c : Dev nD => cellInv ER (sched A B) (Kb c) (barCell c))
    ∗ (bigSep Finset.univ fun x : Dev nD × Cx => reached ER (cell x.1 x.2.1 x.2.2.1 x.2.2.2) 0)
    ∗ (bigSep Finset.univ fun c : Dev nD => reached ER (barCell c) 0)
    ∗ levAts L lv)

instance records_persistent : BI.Persistent (records A B K Kb) := by unfold records; infer_instance

theorem of_cells (Φ : Dev nD × Cx → sProp (MT nD τ sig Unit (Elt F) ℕ UU ℕ)) (x : Dev nD × Cx) : (bigSep Finset.univ Φ : sProp 𝕄) ⊢ Φ x :=
  bigSep_elim (Finset.mem_univ x)
theorem of_devs (Φ : Dev nD → sProp (MT nD τ sig Unit (Elt F) ℕ UU ℕ)) (x : Dev nD) : (bigSep Finset.univ Φ : sProp 𝕄) ⊢ Φ x :=
  bigSep_elim (Finset.mem_univ x)

theorem inv_cell (c : Dev nD) (k : Fin 4) (t s : Fin 3) : records A B K Kb ⊢ cellInv ER (sched A B) (K (c, k, t, s)) (cell c k t s) := by
  unfold records
  iintro ⟨H, -⟩
  iapply (of_cells (fun x : Dev nD × Cx => (cellInv ER (sched A B) (K x) (cell x.1 x.2.1 x.2.2.1 x.2.2.2) : sProp 𝕄)) (c, k, t, s)); iexact H
theorem inv_bar (c : Dev nD) : records A B K Kb ⊢ cellInv ER (sched A B) (Kb c) (barCell c) := by
  unfold records
  iintro ⟨-, H, -⟩
  iapply (of_devs (fun c : Dev nD => (cellInv ER (sched A B) (Kb c) (barCell c) : sProp 𝕄)) c); iexact H
theorem reached_cell (c : Dev nD) (k : Fin 4) (t s : Fin 3) : records A B K Kb ⊢ reached ER (cell c k t s) 0 := by
  unfold records
  iintro ⟨-, -, H, -⟩
  iapply (of_cells (fun x : Dev nD × Cx => (reached ER (cell x.1 x.2.1 x.2.2.1 x.2.2.2) 0 : sProp 𝕄)) (c, k, t, s)); iexact H
theorem reached_bar (c : Dev nD) : records A B K Kb ⊢ reached ER (barCell c) 0 := by
  unfold records
  iintro ⟨-, -, -, H, -⟩
  iapply (of_devs (fun c : Dev nD => (reached ER (barCell c) 0 : sProp 𝕄)) c); iexact H
theorem levels : records A B K Kb ⊢ levAts L lv := by
  unfold records
  iintro ⟨-, -, -, -, H⟩; iexact H

/-- Device `c` owes what is left after its first `j` payments. -/
def owing (c : Dev nD) (j : ℕ) : sProp 𝕄 := iprop(∃ W, owes (c : Thread nD τ) (owed c j) W)

variable {α : Type} {Q : α → sProp (MT nD τ sig Unit (Elt F) ℕ UU ℕ)} {k : PUnit → Prog (TpuEff nD τ sig (Elt F) Λ₀ .tc) α}

/-- A barrier signal hands the peer its memory. -/
theorem wp_bar_signal (c n : Dev nD) (a : Fin 3) (hn : n = peer c a) (j : ℕ) (hj : a.val = j) :
    iprop(records A B K Kb ∗ owing (F := F) c j ∗ dutyTok ER (barCell (peer c a)) 0 a ∗ barPay (F := F) c a)
      ⊢ iprop((owing (F := F) c (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS (1#32 : BitVec 32).toNat) k) Q) := by
  subst hn hj
  unfold owing
  iintro ⟨#HR, ⟨%W, HO⟩, Ht, Hp⟩ Hk
  iapply (Rounds.wp_signal 𝒱₀ ER (sched A B) (c : Thread nD τ) none (dst := (peer c a : Thread nD τ)) (κ := Kb (peer c a))
      (d := a) (by rw [duties_bar]; exact Finset.mem_univ _) (amount_bar A B (peer c a) a) () (owed c (a.val + 1)) (owed_bar c a)) $$ [HO Ht Hp]
  · isplitr; · iapply (inv_bar A B K Kb (peer c a)); iexact HR
    isplitl [HO]; · iexact HO
    isplitl [Ht]; · iexact Ht
    isplitl [Hp]; · rw [payload_bar, peer_peer]; iexact Hp
    iapply (reached_bar A B K Kb (peer c a)); iexact HR
  iintro HO
  iapply Hk
  iexists W; iexact HO

/-- The barrier wait brings the three peers' memory. -/
theorem wp_bar_wait (c : Dev nD) :
    iprop(records A B K Kb ∗ cred (tallyAt (barCell c) () 3) ∗ owing (F := F) c 3 ∗ atPos ER (barCell c) 0 ∅ 0)
      ⊢ iprop(((barPay (F := F) (peer c 0) 0 ∗ barPay (F := F) (peer c 1) 1 ∗ barPay (F := F) (peer c 2) 2) ∗ owing (F := F) c 3 ∗ atPos ER (barCell c) 1 ∅ 0
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (3#32 : BitVec 32).toNat) k) Q) := by
  unfold owing
  iintro ⟨#HR, Hc, ⟨%W, HO⟩, Hat⟩ Hk
  iapply (Rounds.wp_wait_rest_token 𝒱₀ ER (sched A B) (c : Thread nD τ) none (κ := Kb c)
      (wpE_semWait_eq 𝒱₀ (c : Thread nD τ) none Set.univ) (Set.mem_univ _) () (O := owed c 3) (W := W) (R := 0) (m := 0) (T := ∅)
      (by rw [expect_bar]; decide)) $$ [Hc HO Hat]
  · isplitr; · iapply (inv_bar A B K Kb c); iexact HR
    isplitl [Hc]; · iexact Hc
    isplitl [HO]; · iexact HO
    isplitr; · iapply (mayWait c (.reg barS) 3 (by decide)); iapply (levels A B K Kb); iexact HR
    iexact Hat
  iintro ⟨HO, Hat, -, Hpay⟩
  ihave Hp := (Entails.of_eq (rest_bar A B c)) $$ Hpay
  iapply Hk
  isplitl [Hp]; · iexact Hp
  isplitl [HO]; · iexists _; iexact HO
  iexact Hat

/-- A transfer to a peer: the source goes with it, and the landing memory. -/
theorem wp_send (c p n : Dev nD) (hn : n = p) (k₁ k₂ : Fin 4) (t s : Fin 3) (qs qr : DmaSem sig) (hqs : qs = dsem k₁ t s) (hqr : qr = dsem k₂ t s)
    {N : ℕ} {src dst : Memref sig .tc .vmem (R N) .bf16} (hN₁ : rowsOf k₁ s = N) (hN₂ : rowsOf k₂ s = N) (X : (R N).Idx → Elt F .bf16)
    (hp₁ : owns (c : Thread nD τ) src fullShare X ⊢ dmaPay A B c k₁ t s)
    (hp₂ : owns (p : Thread nD τ) dst fullShare X ⊢ dmaPay A B p k₂ t s)
    (j j' : ℕ) (hO : owed c j = owed c j' + tallyAt (cell p k₂ t s) () (cr N))
    {hsc : (dst : Memref sig (Dev.tc n : Thread nD τ).2.kind .vmem (R N) .bf16).view.ref.isScScratch = false}
    {hsrc : src.view.WordExact} {hdst : dst.view.WordExact}
    {hsem : DmaTarget.Typed .vmem (.dma qr) (.remote (Dev.tc n : Thread nD τ) dst (.dma qs) hsc)} :
    iprop(records A B K Kb ∗ owns (c : Thread nD τ) src fullShare X ∗ (∃ Y, owns (p : Thread nD τ) dst fullShare Y) ∗ owing (F := F) c j
        ∗ dutyTok ER (cell c k₁ t s) 0 0 ∗ dutyTok ER (cell p k₂ t s) 0 0)
      ⊢ iprop((cred (tallyAt (cell c k₁ t s) () (cr N)) ∗ owing (F := F) c j'
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn hqs hqr hN₁
  unfold owing
  iintro ⟨#HR, Hsrc, ⟨%Y, Hdst⟩, ⟨%W, HO⟩, Ht₁, Ht₂⟩ Hk
  ihave Hsrc := (show owns (c : Thread nD τ) src fullShare X ⊢ iprop(∃ f, ⌜src.view.read (Elt F) f = X⌝ ∗ (src.view.loc (c : Thread nD τ) ↦[src.view.set]{fullShare} f)) from .rfl) $$ Hsrc
  ihave Hdst := (show owns (n : Thread nD τ) dst fullShare Y ⊢ iprop(∃ f, ⌜dst.view.read (Elt F) f = Y⌝ ∗ (dst.view.loc (n : Thread nD τ) ↦[dst.view.set]{fullShare} f)) from .rfl) $$ Hdst
  icases Hsrc with ⟨%fs, %hfs, Hsrc⟩
  icases Hdst with ⟨%fd, %hfd, Hdst⟩
  have h1 : (src.view.loc (c : Thread nD τ) ↦[src.view.set]{fullShare} fs : sProp 𝕄) ⊢ dmaPay A B c k₁ t s := by
    refine BIBase.Entails.trans ?_ hp₁
    rw [← hfs]; exact owns_intro _ _ _ _
  have h2 : (dst.view.loc (n : Thread nD τ) ↦[dst.view.set]{fullShare} (dst.view.write (Elt F) fd (src.view.read (Elt F) fs) Finset.univ) : sProp 𝕄)
      ⊢ dmaPay A B n k₂ t s := by
    refine BIBase.Entails.trans ?_ hp₂
    have h3 := owns_intro (Ix := Unit) (Name := ℕ) (U := UU) (Lvl := ℕ) (n : Thread nD τ) dst fullShare (dst.view.write (Elt F) fd (src.view.read (Elt F) fs) Finset.univ)
    rw [View.read_write_univ, hfs] at h3
    rw [hfs]; exact h3
  iapply (Rounds.wp_send_pointsTo 𝒱₀ ER (sched A B) (c : Thread nD τ) none (κ₁ := K (c, k₁, t, s)) (κ₂ := K (n, k₂, t, s))
    (r₁ := 0) (r₂ := 0) (d₁ := 0) (d₂ := 0) (fd := fd)
    (by rw [duties_cell]; exact Finset.mem_singleton_self _) (by rw [duties_cell]; exact Finset.mem_singleton_self _)
    () () (cr (rowsOf k₁ s)) (by exact credit_eq dst.view) (amount_cell A B c k₁ t s 0) ((amount_cell A B n k₂ t s 0).trans (by rw [hN₂])) (owed c j') hO (W := W)
    (by rw [payload_cell]; exact h1) (by rw [payload_cell]; exact h2)) $$ [Hsrc Hdst HO Ht₁ Ht₂]
  · isplitr; · iapply (inv_cell A B K Kb c k₁ t s); iexact HR
    isplitr; · iapply (inv_cell A B K Kb n k₂ t s); iexact HR
    isplitl [Hsrc]; · iexact Hsrc
    isplitl [Hdst]; · iexact Hdst
    isplitl [HO]; · iexact HO
    isplitl [Ht₁]; · iexact Ht₁
    isplitr; · iapply (reached_cell A B K Kb c k₁ t s); iexact HR
    isplitl [Ht₂]; · iexact Ht₂
    iapply (reached_cell A B K Kb n k₂ t s); iexact HR
  iintro ⟨Hc, HO⟩
  iapply Hk
  isplitl [Hc]; · iexact Hc
  iexists W; iexact HO

/-- A wait for a transfer's end brings what the transfer hands over. -/
theorem wp_wait (c : Dev nD) (k₁ : Fin 4) (t s : Fin 3) (q : DmaSem sig) (hq : q = dsem k₁ t s)
    {N : ℕ} {src dst : Memref sig .tc .vmem (R N) .bf16} (hN : rowsOf k₁ s = N) (j : ℕ) (hj : ∀ x ∈ lvls.drop j, lvS (.dma (dsem k₁ t s)) < x)
    {hsrc : src.view.WordExact} {hdst : dst.view.WordExact} :
    iprop(records A B K Kb ∗ cred (tallyAt (cell c k₁ t s) () (cr N)) ∗ owing (F := F) c j ∗ atPos ER (cell c k₁ t s) 0 ∅ 0)
      ⊢ iprop((dmaPay A B c k₁ t s ∗ owing (F := F) c j ∗ atPos ER (cell c k₁ t s) 1 ∅ 0
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q src dst hsrc hdst) k) Q) := by
  subst hq hN
  unfold owing
  iintro ⟨#HR, Hc, ⟨%W, HO⟩, Hat⟩ Hk
  iapply (Rounds.wp_wait_rest_token 𝒱₀ ER (sched A B) (c : Thread nD τ) none (κ := K (c, k₁, t, s))
      (wpE_waitDma2_eq 𝒱₀ (c : Thread nD τ) none Set.univ) (Set.mem_univ _) () (O := owed c j) (W := W) (R := 0) (m := 0) (T := ∅)
      (by rw [Nat.zero_add, expect_cell, credit_eq])) $$ [Hc HO Hat]
  · isplitr; · iapply (inv_cell A B K Kb c k₁ t s); iexact HR
    isplitl [Hc]; · iexact Hc
    isplitl [HO]; · iexact HO
    isplitr; · iapply (mayWait c (.dma (dsem k₁ t s)) j hj); iapply (levels A B K Kb); iexact HR
    iexact Hat
  iintro ⟨HO, Hat, -, Hpay⟩
  ihave Hp := (Entails.of_eq (rest_cell A B c k₁ t s)) $$ Hpay
  iapply Hk
  isplitl [Hp]; · iexact Hp
  isplitl [HO]; · iexists _; iexact HO
  iexact Hat

/-! ## The stages of the reduction -/

/-- What the transfer of a stage of the reduction takes besides the array: the peer's slot to land in, the tokens, the positions, and the credit for the peer's transfer; -/
def rsReady (c : Dev nD) (t s : Fin 3) : sProp 𝕄 :=
  iprop(rbAny (F := F) (peer c (rsAx t s)) t s ∗ dutyTok ER (cell c 0 t s) 0 0 ∗ dutyTok ER (cell (peer c (rsAx t s)) 1 t s) 0 0
    ∗ atPos ER (cell c 0 t s) 0 ∅ 0 ∗ atPos ER (cell c 1 t s) 0 ∅ 0 ∗ cred (tallyAt (cell c 1 t s) () (cr (rsN s))))
/-- what is left when it has started, -/
def rsSent (c : Dev nD) (t s : Fin 3) : sProp 𝕄 :=
  iprop(cred (tallyAt (cell c 0 t s) () (cr (rsN s))) ∗ atPos ER (cell c 0 t s) 0 ∅ 0 ∗ atPos ER (cell c 1 t s) 0 ∅ 0 ∗ cred (tallyAt (cell c 1 t s) () (cr (rsN s))))
/-- when it has left, -/
def rsLeft (c : Dev nD) (t s : Fin 3) : sProp 𝕄 :=
  iprop(atPos ER (cell c 0 t s) 1 ∅ 0 ∗ atPos ER (cell c 1 t s) 0 ∅ 0 ∗ cred (tallyAt (cell c 1 t s) () (cr (rsN s))))
/-- and when the peer's has arrived. -/
def rsDone (c : Dev nD) (t s : Fin 3) : sProp 𝕄 :=
  iprop(atPos ER (cell c 0 t s) 1 ∅ 0 ∗ atPos ER (cell c 1 t s) 1 ∅ 0)

theorem sb_any (c : Dev nD) (t s : Fin 3) (X : (S1 (rsN s)).Idx → Elt F .bf16) : sb c t s X ⊢ sbAny (F := F) c t s := by
  unfold sbAny; iintro H; iexists X; iexact H

theorem wp_rs_send (c n : Dev nD) (t s : Fin 3) (hn : n = peer c (rsAx t s)) (qs qr : DmaSem sig) (hqs : qs = dsem 0 t s) (hqr : qr = dsem 1 t s)
    {hsq hsq' : (S1 (rsN s)).Squeezes (R (rsN s))}
    (j : ℕ) (hj : 3 + 3 * s.val + t.val = j)
    {hsc : (((slot (rbM s) t).squeeze (R (rsN s)) hsq : Memref sig .tc .vmem (R (rsN s)) .bf16) : Memref sig (Dev.tc n : Thread nD τ).2.kind .vmem (R (rsN s)) .bf16).view.ref.isScScratch = false}
    {hsrc : ((slot (sbM s) t).squeeze (R (rsN s)) hsq').view.WordExact} {hdst : ((slot (rbM s) t).squeeze (R (rsN s)) hsq).view.WordExact}
    {hsem : DmaTarget.Typed .vmem (.dma qr) (.remote (Dev.tc n : Thread nD τ) ((slot (rbM s) t).squeeze (R (rsN s)) hsq) (.dma qs) hsc)} :
    iprop(records A B K Kb ∗ sb c t s (up (sv A B c t s)) ∗ rsReady (F := F) c t s ∗ owing (F := F) c j)
      ⊢ iprop((rsSent (F := F) c t s ∗ owing (F := F) c (j + 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((slot (sbM s) t).squeeze (R (rsN s)) hsq') (.remote (Dev.tc n : Thread nD τ) ((slot (rbM s) t).squeeze (R (rsN s)) hsq) (.dma qs) hsc) (.dma qr) hsrc hdst hsem) k) Q) := by
  subst hj
  unfold rsReady rsSent rbAny
  iintro ⟨#HR, Hs, ⟨⟨%Y, Hr⟩, Ht1, Ht2, Hat1, Hat2, Hc⟩, HO⟩ Hk
  iapply (wp_send A B K Kb c (peer c (rsAx t s)) n hn 0 1 t s qs qr hqs hqr
      (src := (slot (sbM s) t).squeeze (R (rsN s)) hsq') (dst := (slot (rbM s) t).squeeze (R (rsN s)) hsq) rfl rfl (sv A B c t s)
      (by rw [owns_squeeze]; exact (sb_any c t s _))
      (by rw [owns_squeeze]; show _ ⊢ rb _ t s (up (sv A B (peer (peer c (rsAx t s)) (rsAx t s)) t s)); rw [peer_peer]; exact .rfl)
      (3 + 3 * s.val + t.val) (3 + 3 * s.val + t.val + 1) (owed_rs c t s)) $$ [Hs Hr Ht1 Ht2 HO]
  · isplitr; · iexact HR
    isplitl [Hs]; · rw [owns_squeeze]; unfold sb; iexact Hs
    isplitl [Hr]
    · iexists (fun j => Y (ix3 (⟨0, Nat.one_pos⟩ : Fin 1) (j 0) (j 1))); rw [owns_squeeze]; unfold rb
      rw [show up (fun j : (R (rsN s)).Idx => Y (ix3 (⟨0, Nat.one_pos⟩ : Fin 1) (j 0) (j 1))) = Y from up_down Y]
      iexact Hr
    isplitl [HO]; · iexact HO
    isplitl [Ht1]; · iexact Ht1
    iexact Ht2
  iintro ⟨Hcs, HO⟩
  iapply Hk
  isplitl [Hcs Hat1 Hat2 Hc]
  · isplitl [Hcs]; · iexact Hcs
    isplitl [Hat1]; · iexact Hat1
    isplitl [Hat2]; · iexact Hat2
    iexact Hc
  iexact HO

theorem wp_rs_left (c : Dev nD) (t s : Fin 3) (q : DmaSem sig) (hq : q = dsem 0 t s)
    {src dst : Memref sig .tc .vmem (R (rsN s)) .bf16} (j : ℕ) (hj : ∀ x ∈ lvls.drop j, lvS (.dma (dsem 0 t s)) < x)
    {hsrc : src.view.WordExact} {hdst : dst.view.WordExact} :
    iprop(records A B K Kb ∗ rsSent (F := F) c t s ∗ owing (F := F) c j)
      ⊢ iprop((sbAny (F := F) c t s ∗ rsLeft (F := F) c t s ∗ owing (F := F) c j
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold rsSent rsLeft
  iintro ⟨#HR, ⟨Hcs, Hat1, Hat2, Hc⟩, HO⟩ Hk
  iapply (wp_wait A B K Kb c 0 t s q hq (N := rsN s) rfl j hj) $$ [Hcs Hat1 HO]
  · isplitr; · iexact HR
    isplitl [Hcs]; · iexact Hcs
    isplitl [HO]; · iexact HO
    iexact Hat1
  iintro ⟨Hp, HO, Hat1⟩
  iapply Hk
  isplitl [Hp]; · iapply (show dmaPay A B c 0 t s ⊢ sbAny (F := F) c t s from .rfl); iexact Hp
  isplitl [Hat1 Hat2 Hc]
  · isplitl [Hat1]; · iexact Hat1
    isplitl [Hat2]; · iexact Hat2
    iexact Hc
  iexact HO

theorem wp_rs_done (c : Dev nD) (t s : Fin 3) (q : DmaSem sig) (hq : q = dsem 1 t s)
    {src dst : Memref sig .tc .vmem (R (rsN s)) .bf16} (j : ℕ) (hj : ∀ x ∈ lvls.drop j, lvS (.dma (dsem 1 t s)) < x)
    {hsrc : src.view.WordExact} {hdst : dst.view.WordExact} :
    iprop(records A B K Kb ∗ rsLeft (F := F) c t s ∗ owing (F := F) c j)
      ⊢ iprop((rb c t s (up (sv A B (peer c (rsAx t s)) t s)) ∗ rsDone (F := F) c t s ∗ owing (F := F) c j
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold rsLeft rsDone
  iintro ⟨#HR, ⟨Hat1, Hat2, Hc⟩, HO⟩ Hk
  iapply (wp_wait A B K Kb c 1 t s q hq (N := rsN s) rfl j hj) $$ [Hc Hat2 HO]
  · isplitr; · iexact HR
    isplitl [Hc]; · iexact Hc
    isplitl [HO]; · iexact HO
    iexact Hat2
  iintro ⟨Hp, HO, Hat2⟩
  iapply Hk
  isplitl [Hp]; · iapply (show dmaPay A B c 1 t s ⊢ rb c t s (up (sv A B (peer c (rsAx t s)) t s)) from .rfl); iexact Hp
  isplitl [Hat1 Hat2]
  · isplitl [Hat1]; · iexact Hat1
    iexact Hat2
  iexact HO

/-! ## The stages of the gathering -/

/-- Device `c` holds rows of the whole, in the gathering's buffer. -/
def agW (c : Dev nD) (r n : ℕ) (h : r + n ≤ 1536) : sProp 𝕄 := ag c r n h (seg r n h (whole A B))

/-- What a transfer of the gathering takes besides the rows, and what is left along the way. -/
def agReady (c : Dev nD) (t s : Fin 3) : sProp 𝕄 :=
  iprop(agAny (F := F) (peer c (agAx t s)) (agFrom c t s) (agN s) (agFrom_le c t s) ∗ dutyTok ER (cell c 2 t s) 0 0 ∗ dutyTok ER (cell (peer c (agAx t s)) 3 t s) 0 0
    ∗ atPos ER (cell c 2 t s) 0 ∅ 0 ∗ atPos ER (cell c 3 t s) 0 ∅ 0 ∗ cred (tallyAt (cell c 3 t s) () (cr (agN s))))
def agSent (c : Dev nD) (t s : Fin 3) : sProp 𝕄 :=
  iprop(cred (tallyAt (cell c 2 t s) () (cr (agN s))) ∗ atPos ER (cell c 2 t s) 0 ∅ 0 ∗ atPos ER (cell c 3 t s) 0 ∅ 0 ∗ cred (tallyAt (cell c 3 t s) () (cr (agN s))))
def agLeft (c : Dev nD) (t s : Fin 3) : sProp 𝕄 :=
  iprop(atPos ER (cell c 2 t s) 1 ∅ 0 ∗ atPos ER (cell c 3 t s) 0 ∅ 0 ∗ cred (tallyAt (cell c 3 t s) () (cr (agN s))))
def agDone (c : Dev nD) (t s : Fin 3) : sProp 𝕄 :=
  iprop(atPos ER (cell c 2 t s) 1 ∅ 0 ∗ atPos ER (cell c 3 t s) 1 ∅ 0)

theorem ag_seg_peer (c : Dev nD) (t s : Fin 3) (h : agFrom c t s + agN s ≤ 1536) :
    (ag (peer c (agAx t s)) (agFrom c t s) (agN s) h (seg (agFrom c t s) (agN s) h (whole A B)) : sProp 𝕄)
      ⊢ dmaPay A B (peer c (agAx t s)) 3 t s := by
  show _ ⊢ ag (peer c (agAx t s)) (agTo (peer c (agAx t s)) t s) (agN s) (agTo_le _ t s) (seg (agTo (peer c (agAx t s)) t s) (agN s) (agTo_le _ t s) (whole A B))
  unfold ag
  rw [rows_congr (peer c (agAx t s) : Thread nD τ) agM (agTo_peer c t s) (agTo_le _ t s) h (seg_congr (agTo_peer c t s) (agTo_le _ t s) h (whole A B))]

theorem wp_ag_send (c n : Dev nD) (t s : Fin 3) (hn : n = peer c (agAx t s)) (qs qr : DmaSem sig) (hqs : qs = dsem 2 t s) (hqr : qr = dsem 3 t s)
    (o : Fin 2 → ℕ) (ho : o = ![agFrom c t s, 0]) {inb inb' : ∀ a, o a + (R (agN s)).size a ≤ (R 1536).size a}
    (j : ℕ) (hj : 12 + 3 * s.val + t.val = j)
    {hsc : ((agM.slice (Rect.unit (s := R 1536) o (R (agN s)).size inb) (fun _ => rfl) : Memref sig .tc .vmem (R (agN s)) .bf16) : Memref sig (Dev.tc n : Thread nD τ).2.kind .vmem (R (agN s)) .bf16).view.ref.isScScratch = false}
    {hsrc : (agM.slice (Rect.unit (s := R 1536) o (R (agN s)).size inb') (fun _ => rfl)).view.WordExact} {hdst : (agM.slice (Rect.unit (s := R 1536) o (R (agN s)).size inb) (fun _ => rfl)).view.WordExact}
    {hsem : DmaTarget.Typed .vmem (.dma qr) (.remote (Dev.tc n : Thread nD τ) (agM.slice (Rect.unit (s := R 1536) o (R (agN s)).size inb) (fun _ => rfl)) (.dma qs) hsc)} :
    iprop(records A B K Kb ∗ agW A B c (agFrom c t s) (agN s) (agFrom_le c t s) ∗ agReady (F := F) c t s ∗ owing (F := F) c j)
      ⊢ iprop((agSent (F := F) c t s ∗ owing (F := F) c (j + 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (agM.slice (Rect.unit (s := R 1536) o (R (agN s)).size inb') (fun _ => rfl)) (.remote (Dev.tc n : Thread nD τ) (agM.slice (Rect.unit (s := R 1536) o (R (agN s)).size inb) (fun _ => rfl)) (.dma qs) hsc) (.dma qr) hsrc hdst hsem) k) Q) := by
  subst hj ho
  unfold agReady agSent agW
  iintro ⟨#HR, Hs, ⟨Hr, Ht1, Ht2, Hat1, Hat2, Hc⟩, HO⟩ Hk
  iapply (wp_send A B K Kb c (peer c (agAx t s)) n hn 2 3 t s qs qr hqs hqr
      (src := agM.slice (Rect.unit (s := R 1536) ![agFrom c t s, 0] (R (agN s)).size inb') (fun _ => rfl)) (dst := agM.slice (Rect.unit (s := R 1536) ![agFrom c t s, 0] (R (agN s)).size inb) (fun _ => rfl))
      rfl rfl (seg (agFrom c t s) (agN s) (agFrom_le c t s) (whole A B))
      .rfl (ag_seg_peer A B c t s (agFrom_le c t s))
      (12 + 3 * s.val + t.val) (12 + 3 * s.val + t.val + 1) (owed_ag c t s)) $$ [Hs Hr Ht1 Ht2 HO]
  · isplitr; · iexact HR
    isplitl [Hs]; · unfold ag rows; iexact Hs
    isplitl [Hr]; · unfold agAny rowsAny rows; iexact Hr
    isplitl [HO]; · iexact HO
    isplitl [Ht1]; · iexact Ht1
    iexact Ht2
  iintro ⟨Hcs, HO⟩
  iapply Hk
  isplitl [Hcs Hat1 Hat2 Hc]
  · isplitl [Hcs]; · iexact Hcs
    isplitl [Hat1]; · iexact Hat1
    isplitl [Hat2]; · iexact Hat2
    iexact Hc
  iexact HO

theorem wp_ag_left (c : Dev nD) (t s : Fin 3) (q : DmaSem sig) (hq : q = dsem 2 t s)
    {src dst : Memref sig .tc .vmem (R (agN s)) .bf16} (j : ℕ) (hj : ∀ x ∈ lvls.drop j, lvS (.dma (dsem 2 t s)) < x)
    {hsrc : src.view.WordExact} {hdst : dst.view.WordExact} :
    iprop(records A B K Kb ∗ agSent (F := F) c t s ∗ owing (F := F) c j)
      ⊢ iprop((agW A B c (agFrom c t s) (agN s) (agFrom_le c t s) ∗ agLeft (F := F) c t s ∗ owing (F := F) c j
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold agSent agLeft
  iintro ⟨#HR, ⟨Hcs, Hat1, Hat2, Hc⟩, HO⟩ Hk
  iapply (wp_wait A B K Kb c 2 t s q hq (N := agN s) rfl j hj) $$ [Hcs Hat1 HO]
  · isplitr; · iexact HR
    isplitl [Hcs]; · iexact Hcs
    isplitl [HO]; · iexact HO
    iexact Hat1
  iintro ⟨Hp, HO, Hat1⟩
  iapply Hk
  isplitl [Hp]; · iapply (show dmaPay A B c 2 t s ⊢ agW A B c (agFrom c t s) (agN s) (agFrom_le c t s) from .rfl); iexact Hp
  isplitl [Hat1 Hat2 Hc]
  · isplitl [Hat1]; · iexact Hat1
    isplitl [Hat2]; · iexact Hat2
    iexact Hc
  iexact HO

theorem wp_ag_done (c : Dev nD) (t s : Fin 3) (q : DmaSem sig) (hq : q = dsem 3 t s)
    {src dst : Memref sig .tc .vmem (R (agN s)) .bf16} (j : ℕ) (hj : ∀ x ∈ lvls.drop j, lvS (.dma (dsem 3 t s)) < x)
    {hsrc : src.view.WordExact} {hdst : dst.view.WordExact} :
    iprop(records A B K Kb ∗ agLeft (F := F) c t s ∗ owing (F := F) c j)
      ⊢ iprop((agW A B c (agTo c t s) (agN s) (agTo_le c t s) ∗ agDone (F := F) c t s ∗ owing (F := F) c j
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold agLeft agDone
  iintro ⟨#HR, ⟨Hat1, Hat2, Hc⟩, HO⟩ Hk
  iapply (wp_wait A B K Kb c 3 t s q hq (N := agN s) rfl j hj) $$ [Hc Hat2 HO]
  · isplitr; · iexact HR
    isplitl [Hc]; · iexact Hc
    isplitl [HO]; · iexact HO
    iexact Hat2
  iintro ⟨Hp, HO, Hat2⟩
  iapply Hk
  isplitl [Hp]; · iapply (show dmaPay A B c 3 t s ⊢ agW A B c (agTo c t s) (agN s) (agTo_le c t s) from .rfl); iexact Hp
  isplitl [Hat1 Hat2]
  · isplitl [Hat1]; · iexact Hat1
    iexact Hat2
  iexact HO

/-! ## Loads and stores -/

/-- A load of a slot, -/
theorem wp_load_slot (c : Dev nD) {n : ℕ} {m : Memref sig .tc .vmem (S3 n) .bf16} (t : Fin 3) {inb : ∀ a, (![t.val, 0, 0] : Fin 3 → ℕ) a + (S1 n).size a ≤ (S3 n).size a}
    {hl : m.view.LoadsAt (Rect.unit (s := S3 n) ![t.val, 0, 0] (S1 n).size inb)}
    {k : ((S1 n).Idx → Elt F .bf16) → Prog (TpuEff nD τ sig (Elt F) Λ₀ .tc) α} {X : (S1 n).Idx → Elt F .bf16} :
    (owns (c : Thread nD τ) (slot m t) fullShare X : sProp 𝕄)
      ⊢ iprop((owns (c : Thread nD τ) (slot m t) fullShare X -∗ wp frame (wpE (defs₀ (F := F)) 𝒱₀ (c : Thread nD τ) none) Set.univ (k X) Q)
          -∗ wp frame (wpE (defs₀ (F := F)) 𝒱₀ (c : Thread nD τ) none) Set.univ (.op (.load m (Rect.unit (s := S3 n) ![t.val, 0, 0] (S1 n).size inb) hl) k) Q) :=
  wp_load_slice 𝒱₀ (c : Thread nD τ) none Set.univ (fun _ => rfl)

/-- and a store over one. -/
theorem wp_store_slot (c : Dev nD) {n : ℕ} {m : Memref sig .tc .vmem (S3 n) .bf16} (t : Fin 3) {inb : ∀ a, (![t.val, 0, 0] : Fin 3 → ℕ) a + (S1 n).size a ≤ (S3 n).size a}
    {w : (S1 n).Idx → Elt F .bf16} {hx : (m.access (Rect.unit (s := S3 n) ![t.val, 0, 0] (S1 n).size inb)).Stores Finset.univ}
    {hm : (Finset.univ : Finset (S1 n).Idx) = Finset.univ ∨ ∀ a, (Rect.unit (s := S3 n) ![t.val, 0, 0] (S1 n).size inb).stride a = 1}
    {X : (S1 n).Idx → Elt F .bf16} :
    (owns (c : Thread nD τ) (slot m t) fullShare X : sProp 𝕄)
      ⊢ iprop((owns (c : Thread nD τ) (slot m t) fullShare w -∗ wp frame (wpE (defs₀ (F := F)) 𝒱₀ (c : Thread nD τ) none) Set.univ (k ⟨⟩) Q)
          -∗ wp frame (wpE (defs₀ (F := F)) 𝒱₀ (c : Thread nD τ) none) Set.univ
            (.op (.store m (Rect.unit (s := S3 n) ![t.val, 0, 0] (S1 n).size inb) w Finset.univ hx hm) k) Q) :=
  wp_store_slice 𝒱₀ (c : Thread nD τ) none Set.univ (fun _ => rfl)

/-- Device `c` holds its two operands, -/
def aIn (c : Dev nD) : sProp 𝕄 := owns (c : Thread nD τ) (Memref.whole cc0_stg0_0) fullShare (A c)
def bIn (c : Dev nD) : sProp 𝕄 := owns (c : Thread nD τ) (Memref.whole cc0_stg1_0) fullShare (B c)
/-- and rows of the result's buffer. -/
abbrev oM : Memref sig .tc .vmem (R 1536) .f32 := Memref.whole cc0_stg2_0
def ou (c : Dev nD) (r n : ℕ) (h : r + n ≤ 1536) (X : (R n).Idx → Elt F .f32) : sProp 𝕄 := rows (c : Thread nD τ) oM r n h X
def ouAny (c : Dev nD) (r n : ℕ) (h : r + n ≤ 1536) : sProp 𝕄 := rowsAny (Val := Elt F) (c : Thread nD τ) oM r n h

/-- A load of 256 rows of the first operand, -/
theorem wp_load_a (c : Dev nD) {o : Fin 2 → ℕ} {r : ℕ} (ho : o = ![r, 0]) (h : r + 256 ≤ 1536)
    {inb : ∀ a, o a + S256x768.size a ≤ S1536x768.size a} {hl : (Memref.whole cc0_stg0_0 : Memref sig .tc .vmem S1536x768 .f32).view.LoadsAt (Rect.unit (s := S1536x768) o S256x768.size inb)}
    {k : Vec F S256x768 .f32 → Prog (TpuEff nD τ sig (Elt F) Λ₀ .tc) α} :
    (aIn A c : sProp 𝕄)
      ⊢ iprop((aIn A c -∗ wp frame (wpE (defs₀ (F := F)) 𝒱₀ (c : Thread nD τ) none) Set.univ (k (ablk A c r h)) Q)
          -∗ wp frame (wpE (defs₀ (F := F)) 𝒱₀ (c : Thread nD τ) none) Set.univ (.op (.load (Memref.whole cc0_stg0_0) (Rect.unit (s := S1536x768) o S256x768.size inb) hl) k) Q) := by
  subst ho
  have he : (fun j => A c ((Rect.unit (s := S1536x768) ![r, 0] S256x768.size inb).emb j)) = ablk A c r h := by
    funext j
    refine congrArg (A c) (funext fun a => Fin.ext ?_)
    rw [Rect.emb_apply]
    match a with
    | ⟨0, _⟩ => show r + 1 * (j 0).val = r + (j 0).val; rw [Nat.one_mul]
    | ⟨1, _⟩ => show 0 + 1 * (j 1).val = (j 1).val; rw [Nat.one_mul, Nat.zero_add]
  rw [← he]
  exact wp_load_part 𝒱₀ (c : Thread nD τ) none Set.univ

/-- and of the second operand whole. -/
theorem wp_load_b (c : Dev nD) {inb : ∀ a, (![0, 0] : Fin 2 → ℕ) a + S768x1536.size a ≤ S768x1536.size a}
    {hl : (Memref.whole cc0_stg1_0 : Memref sig .tc .vmem S768x1536 .f32).view.LoadsAt (Rect.unit (s := S768x1536) ![0, 0] S768x1536.size inb)}
    {k : Vec F S768x1536 .f32 → Prog (TpuEff nD τ sig (Elt F) Λ₀ .tc) α} :
    (bIn B c : sProp 𝕄)
      ⊢ iprop((bIn B c -∗ wp frame (wpE (defs₀ (F := F)) 𝒱₀ (c : Thread nD τ) none) Set.univ (k (B c)) Q)
          -∗ wp frame (wpE (defs₀ (F := F)) 𝒱₀ (c : Thread nD τ) none) Set.univ (.op (.load (Memref.whole cc0_stg1_0) (Rect.unit (s := S768x1536) ![0, 0] S768x1536.size inb) hl) k) Q) := by
  have he : (fun j => B c ((Rect.unit (s := S768x1536) ![0, 0] S768x1536.size inb).emb j)) = B c := by
    funext j
    refine congrArg (B c) (funext fun a => Fin.ext ?_)
    rw [Rect.emb_apply]
    match a with
    | ⟨0, _⟩ => show 0 + 1 * (j 0).val = (j 0).val; rw [Nat.one_mul, Nat.zero_add]
    | ⟨1, _⟩ => show 0 + 1 * (j 1).val = (j 1).val; rw [Nat.one_mul, Nat.zero_add]
  rw [show k (B c) = k (fun j => B c ((Rect.unit (s := S768x1536) ![0, 0] S768x1536.size inb).emb j)) from congrArg k he.symm]
  unfold bIn
  exact wp_load_part (Ix := Unit) (Name := ℕ) (U := UU) (Lvl := ℕ) (defs := defs₀ (F := F)) 𝒱₀ (c : Thread nD τ) none Set.univ
    (m := (Memref.whole cc0_stg1_0 : Memref sig .tc .vmem S768x1536 .f32)) (hl := hl) (k := k) (Q := Q) (q := fullShare) (X := B c)

/-- Rows of the result's buffer: a load, -/
theorem wp_load_o (c : Dev nD) {o : Fin 2 → ℕ} {r n : ℕ} (ho : o = ![r, 0]) (h : r + n ≤ 1536) {inb : ∀ a, o a + (R n).size a ≤ (R 1536).size a}
    {hl : (Memref.whole cc0_stg2_0 : Memref sig .tc .vmem (R 1536) .f32).view.LoadsAt (Rect.unit (s := R 1536) o (R n).size inb)}
    {k : ((R n).Idx → Elt F .f32) → Prog (TpuEff nD τ sig (Elt F) Λ₀ .tc) α} {X : (R n).Idx → Elt F .f32} :
    (ou c r n h X : sProp 𝕄)
      ⊢ iprop((ou c r n h X -∗ wp frame (wpE (defs₀ (F := F)) 𝒱₀ (c : Thread nD τ) none) Set.univ (k X) Q)
          -∗ wp frame (wpE (defs₀ (F := F)) 𝒱₀ (c : Thread nD τ) none) Set.univ (.op (.load (Memref.whole cc0_stg2_0) (Rect.unit (s := R 1536) o (R n).size inb) hl) k) Q) :=
  wp_load_rows 𝒱₀ (c : Thread nD τ) none Set.univ ho h

/-- a load of rows holding anything, -/
theorem wp_load_o_any (c : Dev nD) {o : Fin 2 → ℕ} {r n : ℕ} (ho : o = ![r, 0]) (h : r + n ≤ 1536) {inb : ∀ a, o a + (R n).size a ≤ (R 1536).size a}
    {hl : (Memref.whole cc0_stg2_0 : Memref sig .tc .vmem (R 1536) .f32).view.LoadsAt (Rect.unit (s := R 1536) o (R n).size inb)}
    {k : ((R n).Idx → Elt F .f32) → Prog (TpuEff nD τ sig (Elt F) Λ₀ .tc) α} :
    (ouAny (F := F) c r n h : sProp 𝕄)
      ⊢ iprop((∀ X, ou c r n h X -∗ wp frame (wpE (defs₀ (F := F)) 𝒱₀ (c : Thread nD τ) none) Set.univ (k X) Q)
          -∗ wp frame (wpE (defs₀ (F := F)) 𝒱₀ (c : Thread nD τ) none) Set.univ (.op (.load (Memref.whole cc0_stg2_0) (Rect.unit (s := R 1536) o (R n).size inb) hl) k) Q) := by
  unfold ouAny rowsAny
  iintro ⟨%X, H⟩ Hk
  iapply (wp_load_o c ho h (X := X)) $$ [H]
  · unfold ou; iexact H
  iintro H
  iapply Hk; iexact H

/-- and a store. -/
theorem wp_store_o (c : Dev nD) {o : Fin 2 → ℕ} {r n : ℕ} (ho : o = ![r, 0]) (h : r + n ≤ 1536) {inb : ∀ a, o a + (R n).size a ≤ (R 1536).size a}
    {w : (R n).Idx → Elt F .f32} (Y : (R n).Idx → Elt F .f32) (hw : w = Y) {hx : ((Memref.whole cc0_stg2_0 : Memref sig .tc .vmem (R 1536) .f32).access (Rect.unit (s := R 1536) o (R n).size inb)).Stores Finset.univ}
    {hm : (Finset.univ : Finset (R n).Idx) = Finset.univ ∨ ∀ a, (Rect.unit (s := R 1536) o (R n).size inb).stride a = 1}
    {X : (R n).Idx → Elt F .f32} :
    (ou c r n h X : sProp 𝕄)
      ⊢ iprop((ou c r n h Y -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole cc0_stg2_0) (Rect.unit (s := R 1536) o (R n).size inb) w Finset.univ hx hm) k) Q) := by
  subst hw
  exact wp_store_rows 𝒱₀ (c : Thread nD τ) none Set.univ ho h

/-- Rows of the gathering's buffer: a load of rows holding anything, -/
theorem wp_load_ag (c : Dev nD) {o : Fin 2 → ℕ} {r n : ℕ} (ho : o = ![r, 0]) (h : r + n ≤ 1536) {inb : ∀ a, o a + (R n).size a ≤ (R 1536).size a}
    {hl : (Memref.whole cc0_scratch6 : Memref sig .tc .vmem (R 1536) .bf16).view.LoadsAt (Rect.unit (s := R 1536) o (R n).size inb)}
    {k : ((R n).Idx → Elt F .bf16) → Prog (TpuEff nD τ sig (Elt F) Λ₀ .tc) α} :
    (agAny (F := F) c r n h : sProp 𝕄)
      ⊢ iprop((∀ X, ag c r n h X -∗ wp frame (wpE (defs₀ (F := F)) 𝒱₀ (c : Thread nD τ) none) Set.univ (k X) Q)
          -∗ wp frame (wpE (defs₀ (F := F)) 𝒱₀ (c : Thread nD τ) none) Set.univ (.op (.load (Memref.whole cc0_scratch6) (Rect.unit (s := R 1536) o (R n).size inb) hl) k) Q) := by
  unfold agAny rowsAny
  iintro ⟨%X, H⟩ Hk
  iapply (wp_load_rows 𝒱₀ (c : Thread nD τ) none Set.univ (m := agM) ho h (X := X)) $$ [H]
  · iexact H
  iintro H
  iapply Hk; unfold ag; iexact H

/-- and a store of rows of the whole. -/
theorem wp_store_ag (c : Dev nD) {o : Fin 2 → ℕ} {r n : ℕ} (ho : o = ![r, 0]) (h : r + n ≤ 1536) {inb : ∀ a, o a + (R n).size a ≤ (R 1536).size a}
    {w : (R n).Idx → Elt F .bf16} (hw : w = seg r n h (whole A B)) {hx : ((Memref.whole cc0_scratch6 : Memref sig .tc .vmem (R 1536) .bf16).access (Rect.unit (s := R 1536) o (R n).size inb)).Stores Finset.univ}
    {hm : (Finset.univ : Finset (R n).Idx) = Finset.univ ∨ ∀ a, (Rect.unit (s := R 1536) o (R n).size inb).stride a = 1}
    {X : (R n).Idx → Elt F .bf16} :
    (ag c r n h X : sProp 𝕄)
      ⊢ iprop((agW A B c r n h -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole cc0_scratch6) (Rect.unit (s := R 1536) o (R n).size inb) w Finset.univ hx hm) k) Q) := by
  subst hw
  unfold agW ag
  exact wp_store_rows 𝒱₀ (c : Thread nD τ) none Set.univ ho h

/-! A slot of a sending buffer: loaded and stored. -/

theorem wp_load_sb (c : Dev nD) (t s : Fin 3) {m : Memref sig .tc .vmem (S3 (rsN s)) .bf16} (hm : m = sbM s) {inb : ∀ a, (![t.val, 0, 0] : Fin 3 → ℕ) a + (S1 (rsN s)).size a ≤ (S3 (rsN s)).size a}
    {hl : m.view.LoadsAt (Rect.unit (s := S3 (rsN s)) ![t.val, 0, 0] (S1 (rsN s)).size inb)}
    {k : ((S1 (rsN s)).Idx → Elt F .bf16) → Prog (TpuEff nD τ sig (Elt F) Λ₀ .tc) α} :
    (sbAny (F := F) c t s : sProp 𝕄)
      ⊢ iprop((∀ X, sb c t s X -∗ wp frame (wpE (defs₀ (F := F)) 𝒱₀ (c : Thread nD τ) none) Set.univ (k X) Q)
          -∗ wp frame (wpE (defs₀ (F := F)) 𝒱₀ (c : Thread nD τ) none) Set.univ (.op (.load m (Rect.unit (s := S3 (rsN s)) ![t.val, 0, 0] (S1 (rsN s)).size inb) hl) k) Q) := by
  subst hm
  unfold sbAny sb
  iintro ⟨%X, H⟩ Hk
  iapply (wp_load_slot c t (X := X)) $$ H
  iintro H
  iapply Hk; iexact H

theorem wp_store_sb (c : Dev nD) (t s : Fin 3) {m : Memref sig .tc .vmem (S3 (rsN s)) .bf16} (hm : m = sbM s) {inb : ∀ a, (![t.val, 0, 0] : Fin 3 → ℕ) a + (S1 (rsN s)).size a ≤ (S3 (rsN s)).size a}
    {w : (S1 (rsN s)).Idx → Elt F .bf16} (hw : w = up (sv A B c t s)) {hx : (m.access (Rect.unit (s := S3 (rsN s)) ![t.val, 0, 0] (S1 (rsN s)).size inb)).Stores Finset.univ}
    {hm' : (Finset.univ : Finset (S1 (rsN s)).Idx) = Finset.univ ∨ ∀ a, (Rect.unit (s := S3 (rsN s)) ![t.val, 0, 0] (S1 (rsN s)).size inb).stride a = 1}
    {X : (S1 (rsN s)).Idx → Elt F .bf16} :
    (sb c t s X : sProp 𝕄)
      ⊢ iprop((sb c t s (up (sv A B c t s)) -∗ wp frame (wpE (defs₀ (F := F)) 𝒱₀ (c : Thread nD τ) none) Set.univ (k ⟨⟩) Q)
          -∗ wp frame (wpE (defs₀ (F := F)) 𝒱₀ (c : Thread nD τ) none) Set.univ (.op (.store m (Rect.unit (s := S3 (rsN s)) ![t.val, 0, 0] (S1 (rsN s)).size inb) w Finset.univ hx hm') k) Q) := by
  subst hm hw
  unfold sb
  exact wp_store_slot c t

/-- A slot of a landing buffer, loaded. -/
theorem wp_load_rb (c : Dev nD) (t s : Fin 3) {m : Memref sig .tc .vmem (S3 (rsN s)) .bf16} (hm : m = rbM s) {inb : ∀ a, (![t.val, 0, 0] : Fin 3 → ℕ) a + (S1 (rsN s)).size a ≤ (S3 (rsN s)).size a}
    {hl : m.view.LoadsAt (Rect.unit (s := S3 (rsN s)) ![t.val, 0, 0] (S1 (rsN s)).size inb)}
    {k : ((S1 (rsN s)).Idx → Elt F .bf16) → Prog (TpuEff nD τ sig (Elt F) Λ₀ .tc) α} {X : (S1 (rsN s)).Idx → Elt F .bf16} :
    (rb c t s X : sProp 𝕄)
      ⊢ iprop((rb c t s X -∗ wp frame (wpE (defs₀ (F := F)) 𝒱₀ (c : Thread nD τ) none) Set.univ (k X) Q)
          -∗ wp frame (wpE (defs₀ (F := F)) 𝒱₀ (c : Thread nD τ) none) Set.univ (.op (.load m (Rect.unit (s := S3 (rsN s)) ![t.val, 0, 0] (S1 (rsN s)).size inb) hl) k) Q) := by
  subst hm
  unfold rb
  exact wp_load_slot c t

/-- The gathering's buffer, loaded whole. -/
theorem wp_load_ag_whole (c : Dev nD) {inb : ∀ a, (![0, 0] : Fin 2 → ℕ) a + (R 1536).size a ≤ (R 1536).size a}
    {hl : (Memref.whole cc0_scratch6 : Memref sig .tc .vmem (R 1536) .bf16).view.LoadsAt (Rect.unit (s := R 1536) ![0, 0] (R 1536).size inb)}
    {k : ((R 1536).Idx → Elt F .bf16) → Prog (TpuEff nD τ sig (Elt F) Λ₀ .tc) α} {X : (R 1536).Idx → Elt F .bf16} :
    (ag c 0 1536 (Nat.le_refl _) X : sProp 𝕄)
      ⊢ iprop((ag c 0 1536 (Nat.le_refl _) X -∗ wp frame (wpE (defs₀ (F := F)) 𝒱₀ (c : Thread nD τ) none) Set.univ (k X) Q)
          -∗ wp frame (wpE (defs₀ (F := F)) 𝒱₀ (c : Thread nD τ) none) Set.univ (.op (.load (Memref.whole cc0_scratch6) (Rect.unit (s := R 1536) ![0, 0] (R 1536).size inb) hl) k) Q) :=
  wp_load_rows 𝒱₀ (c : Thread nD τ) none Set.univ rfl _

/-! ## Cutting and joining rows -/

omit [FloatOps F] in
/-- The rows kept after stage 0 are those kept after stage 1 and those given away there, -/
theorem ou_split0 (c : Dev nD) (t : Fin 3) (X : (R 256).Idx → Elt F .f32) :
    (ou c (keep c t 0) 256 (keep_le c t 0) X : sProp 𝕄)
      ⊢ iprop(ou c (keep c t 1) 128 (keep_le c t 1) (seg (128 * kb c (t + 1)) 128 (le0 c (t + 1)) X)
          ∗ ou c (give c t 1) 128 (give_le c t 1) (seg (128 * (1 - kb c (t + 1))) 128 (le0' c (t + 1)) X)) :=
  rows_halve (c : Thread nD τ) oM (keep c t 0) 128 256 (kb c (t + 1)) rfl (kb_le c _) (keep_le c t 0) X
omit [FloatOps F] in
/-- and likewise a stage later. -/
theorem ou_split1 (c : Dev nD) (t : Fin 3) (X : (R 128).Idx → Elt F .f32) :
    (ou c (keep c t 1) 128 (keep_le c t 1) X : sProp 𝕄)
      ⊢ iprop(ou c (keep c t 2) 64 (keep_le c t 2) (seg (64 * kb c (t + 2)) 64 (le1 c (t + 2)) X)
          ∗ ou c (give c t 2) 64 (give_le c t 2) (seg (64 * (1 - kb c (t + 2))) 64 (le1' c (t + 2)) X)) :=
  rows_halve (c : Thread nD τ) oM (keep c t 1) 64 128 (kb c (t + 2)) rfl (kb_le c _) (keep_le c t 1) X

/-- Rows sent and rows received are the rows sent next. -/
theorem agW_merge0 (c : Dev nD) (t : Fin 3) :
    iprop(agW A B c (agFrom c t 0) (agN 0) (agFrom_le c t 0) ∗ agW A B c (agTo c t 0) (agN 0) (agTo_le c t 0))
      ⊢ agW A B c (agFrom c t 1) (agN 1) (agFrom_le c t 1) := by
  have hk : keep c t 1 + 128 ≤ 1536 := keep_le c t 1
  have h := rows_unhalve (Ix := Unit) (Name := ℕ) (U := UU) (Lvl := ℕ) (c : Thread nD τ) agM (keep c t 1) 64 128 (kb c (t + 2)) rfl (kb_le c _) hk
    (seg (keep c t 1) 128 hk (whole A B))
  simp only [seg_seg] at h
  exact h
theorem agW_merge1 (c : Dev nD) (t : Fin 3) :
    iprop(agW A B c (agFrom c t 1) (agN 1) (agFrom_le c t 1) ∗ agW A B c (agTo c t 1) (agN 1) (agTo_le c t 1))
      ⊢ agW A B c (agFrom c t 2) (agN 2) (agFrom_le c t 2) := by
  have hk : keep c t 0 + 256 ≤ 1536 := keep_le c t 0
  have h := rows_unhalve (Ix := Unit) (Name := ℕ) (U := UU) (Lvl := ℕ) (c : Thread nD τ) agM (keep c t 0) 128 256 (kb c (t + 1)) rfl (kb_le c _) hk
    (seg (keep c t 0) 256 hk (whole A B))
  simp only [seg_seg] at h
  exact h

theorem le512 (t : Fin 3) : 512 * t.val + 512 ≤ 1536 := by have := t.isLt; omega

/-- After the last stage a group's 512 rows are all there, -/
theorem agW_merge2 (c : Dev nD) (t : Fin 3) :
    iprop(agW A B c (agFrom c t 2) (agN 2) (agFrom_le c t 2) ∗ agW A B c (agTo c t 2) (agN 2) (agTo_le c t 2))
      ⊢ agW A B c (512 * t.val) 512 (le512 t) := by
  have h := rows_unhalve (Ix := Unit) (Name := ℕ) (U := UU) (Lvl := ℕ) (c : Thread nD τ) agM (512 * t.val) 256 512 (kb c t) rfl (kb_le c _) (le512 t)
    (seg (512 * t.val) 512 (le512 t) (whole A B))
  simp only [seg_seg] at h
  exact h

/-- and the three groups are the whole. -/
theorem agW_all (c : Dev nD) :
    iprop(agW A B c (512 * (0 : Fin 3).val) 512 (le512 0) ∗ agW A B c (512 * (1 : Fin 3).val) 512 (le512 1) ∗ agW A B c (512 * (2 : Fin 3).val) 512 (le512 2))
      ⊢ ag c 0 1536 (Nat.le_refl _) (whole A B) := by
  have h1 := rows_join (Ix := Unit) (Name := ℕ) (U := UU) (Lvl := ℕ) (c : Thread nD τ) agM 512 512 512 (by omega) (seg 512 1024 (by omega) (whole A B))
  simp only [seg_seg] at h1
  have h1' : iprop(agW A B c (512 * (1 : Fin 3).val) 512 (le512 1) ∗ agW A B c (512 * (2 : Fin 3).val) 512 (le512 2))
      ⊢ rows (Ix := Unit) (Name := ℕ) (U := UU) (Lvl := ℕ) (c : Thread nD τ) agM (0 + 512) 1024 (by omega) (seg 512 1024 (Nat.le_refl 1536) (whole A B)) := h1
  have h2 : iprop(agW A B c (512 * (0 : Fin 3).val) 512 (le512 0)
        ∗ rows (Ix := Unit) (Name := ℕ) (U := UU) (Lvl := ℕ) (c : Thread nD τ) agM (0 + 512) 1024 (by omega) (seg 512 1024 (Nat.le_refl 1536) (whole A B)))
      ⊢ ag c 0 1536 (Nat.le_refl _) (whole A B) :=
    rows_join (Ix := Unit) (Name := ℕ) (U := UU) (Lvl := ℕ) (c : Thread nD τ) agM 0 512 1024 (Nat.le_refl 1536) (whole A B)
  exact (sep_mono_right h1').trans h2

end Cert.KernelIdealProof
-- ==== Proof.KernelIdeal.Parts1.lean ====
/-
  The kernel's body, parts 2 to 9: the reduction's first stage and the start of its second.
-/
module

public import proofs.«01_k».proof.Proof.KernelIdeal.Steps

@[expose] public section

set_option maxRecDepth 16384

noncomputable section

namespace Cert.KernelIdealProof

open Cert.KernelIdeal Cert.KernelIdeal.Gen Cert.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S1536x768 .f32) (B : Dev nD → Vec F S768x1536 .f32)
variable (K : Dev nD × Cx → ℕ) (Kb : Dev nD → ℕ)

/-- Group 0's product of the rows given away is stored and sent; group 1's is computed. -/
theorem part2_run (c : Dev nD) (v2 v5 v8 : BitVec 32) {Q : _ → sProp 𝕄} :
    iprop(records A B K Kb ∗ aIn A c ∗ bIn B c ∗ sbAny (F := F) c 0 0 ∗ sbAny (F := F) c 1 0 ∗ rsReady (F := F) c 0 0 ∗ owing (F := F) c 3)
      ⊢ iprop((∀ w1 w2, aIn A c ∗ bIn B c ∗ sbAny (F := F) c 1 0 ∗ rsSent (F := F) c 0 0 ∗ owing (F := F) c 4 -∗ Q ⟨w1, w2, k0_pay4 (ablk A c (give c 1 0) (give_le c 1 0)) (B c)⟩)
        -∗ wp frame (wpE (defs₀ (F := F)) 𝒱₀ (c : Thread nD τ) none) Set.univ
          (k0_part2 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v5 v8 (k0_pay1 (ablk A c (give c 0 0) (give_le c 0 0))) (k0_pay2 (B c)) (constant S256x1536 .f32 0x00000000#32)) Q) := by
  rw [k0_part2_eq_skeleton]; unfold k0_part2_skel
  simp only [Prog.lift, Prog.bind_op, Prog.bind_ret, Prog.pure_eq_ret]
  iintro ⟨#HR, HA, HB, H0, H1, Hr, HO⟩ Hk
  iapply (wp_load_sb c 0 0 rfl) $$ H0; iintro %X00 H0
  iapply (wp_store_sb A B c 0 0 rfl (pay3_eq _ _)) $$ H0; iintro H0
  iapply (wp_rs_send A B K Kb c _ 0 0 (dev4_eq c) _ _ (sem7_eq 0 0 _) (sem8_eq 0 0 _) 3 rfl) $$ [H0 Hr HO]
  · isplitr; · iexact HR
    isplitl [H0]; · iexact H0
    isplitl [Hr]; · iexact Hr
    iexact HO
  iintro ⟨Hr, HO⟩
  iapply (wp_load_a A c (off2a_eq c) (give_le c 1 0)) $$ HA; iintro HA
  iapply (wp_load_b B c) $$ HB; iintro HB
  iapply (wp_load_sb c 1 0 rfl) $$ H1; iintro %X1 H1
  ihave H1 := (sb_any c 1 0 X1) $$ H1
  rw [wp_ret]; imodintro
  iapply Hk
  isplitl [HA]; · iexact HA
  isplitl [HB]; · iexact HB
  isplitl [H1]; · iexact H1
  isplitl [Hr]; · iexact Hr
  iexact HO

/-- Group 1's is stored and sent; group 2's is computed and stored. -/
theorem part3_run (c : Dev nD) (v2 v5 v7 : BitVec 32) {Q : _ → sProp 𝕄} :
    iprop(records A B K Kb ∗ aIn A c ∗ bIn B c ∗ sbAny (F := F) c 1 0 ∗ sbAny (F := F) c 2 0 ∗ rsReady (F := F) c 1 0 ∗ owing (F := F) c 4)
      ⊢ iprop((∀ w1 w2 w3, aIn A c ∗ bIn B c ∗ sb c 2 0 (up (sv A B c 2 0)) ∗ rsSent (F := F) c 1 0 ∗ owing (F := F) c 5 -∗ Q ⟨w1, w2, w3⟩)
        -∗ wp frame (wpE (defs₀ (F := F)) 𝒱₀ (c : Thread nD τ) none) Set.univ
          (k0_part3 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v5 v7 (k0_pay4 (ablk A c (give c 1 0) (give_le c 1 0)) (B c))) Q) := by
  rw [k0_part3_eq_skeleton]; unfold k0_part3_skel
  simp only [Prog.lift, Prog.bind_op, Prog.bind_ret, Prog.pure_eq_ret]
  iintro ⟨#HR, HA, HB, H1, H2, Hr, HO⟩ Hk
  ihave H1 := (show sbAny (F := F) c 1 0 ⊢ iprop(∃ X, sb (F := F) c 1 0 X) from .rfl) $$ H1; icases H1 with ⟨%X1, H1⟩
  iapply (wp_store_sb A B c 1 0 rfl (pay5_eq _)) $$ H1; iintro H1
  iapply (wp_rs_send A B K Kb c _ 1 0 (dev5_eq c) _ _ (sem7_eq 1 0 _) (sem8_eq 1 0 _) 4 rfl) $$ [H1 Hr HO]
  · isplitr; · iexact HR
    isplitl [H1]; · iexact H1
    isplitl [Hr]; · iexact Hr
    iexact HO
  iintro ⟨Hr, HO⟩
  iapply (wp_load_a A c (off2b_eq c) (give_le c 2 0)) $$ HA; iintro HA
  iapply (wp_load_b B c) $$ HB; iintro HB
  iapply (wp_load_sb c 2 0 rfl) $$ H2; iintro %X20 H2
  iapply (wp_store_sb A B c 2 0 rfl (pay6_eq _ _)) $$ H2; iintro H2
  rw [wp_ret]; imodintro
  iapply Hk
  isplitl [HA]; · iexact HA
  isplitl [HB]; · iexact HB
  isplitl [H2]; · iexact H2
  isplitl [Hr]; · iexact Hr
  iexact HO

/-- Group 2's is sent; the products of the rows kept are computed and stored. -/
theorem part4_run (c : Dev nD) (v7 v44 v70 v84 : BitVec 32) {Q : _ → sProp 𝕄} :
    iprop(records A B K Kb ∗ aIn A c ∗ bIn B c ∗ sb c 2 0 (up (sv A B c 2 0)) ∗ rsReady (F := F) c 2 0 ∗ owing (F := F) c 5 ∗ ouAny (F := F) c (keep c 0 0) 256 (keep_le c 0 0) ∗ ouAny (F := F) c (keep c 1 0) 256 (keep_le c 1 0))
      ⊢ iprop((∀ w1, aIn A c ∗ bIn B c ∗ rsSent (F := F) c 2 0 ∗ owing (F := F) c 6 ∗ ou c (keep c 0 0) 256 (keep_le c 0 0) (prodAt A B c (keep c 0 0) (keep_le c 0 0)) ∗ ou c (keep c 1 0) 256 (keep_le c 1 0) (prodAt A B c (keep c 1 0) (keep_le c 1 0)) -∗ Q ⟨w1, k0_pay9 (ablk A c (keep c 2 0) (keep_le c 2 0)), k0_pay10 (B c)⟩)
        -∗ wp frame (wpE (defs₀ (F := F)) 𝒱₀ (c : Thread nD τ) none) Set.univ
          (k0_part4 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v7 v44 v70 v84) Q) := by
  rw [k0_part4_eq_skeleton]; unfold k0_part4_skel
  simp only [Prog.lift, Prog.bind_op, Prog.bind_ret, Prog.pure_eq_ret]
  iintro ⟨#HR, HA, HB, H2, Hr, HO, Ho0, Ho1⟩ Hk
  iapply (wp_rs_send A B K Kb c _ 2 0 (dev6_eq c) _ _ (sem7_eq 2 0 _) (sem8_eq 2 0 _) 5 rfl) $$ [H2 Hr HO]
  · isplitr; · iexact HR
    isplitl [H2]; · iexact H2
    isplitl [Hr]; · iexact Hr
    iexact HO
  iintro ⟨Hr, HO⟩
  iapply (wp_load_a A c (off3_eq c) (keep_le c 0 0)) $$ HA; iintro HA
  iapply (wp_load_b B c) $$ HB; iintro HB
  iapply (wp_load_o_any (n := 256) c (off4_eq c) (keep_le c 0 0)) $$ Ho0; iintro %XHo0 Ho0
  iapply (wp_store_o (n := 256) c (off4_eq c) (keep_le c 0 0) (prodAt A B c (keep c 0 0) (keep_le c 0 0)) (rfl)) $$ Ho0; iintro Ho0
  iapply (wp_load_a A c (off5a_eq c) (keep_le c 1 0)) $$ HA; iintro HA
  iapply (wp_load_b B c) $$ HB; iintro HB
  iapply (wp_load_o_any (n := 256) c (off6a_eq c) (keep_le c 1 0)) $$ Ho1; iintro %XHo1 Ho1
  iapply (wp_store_o (n := 256) c (off6a_eq c) (keep_le c 1 0) (prodAt A B c (keep c 1 0) (keep_le c 1 0)) (pay8_eq _ _)) $$ Ho1; iintro Ho1
  iapply (wp_load_a A c (off5b_eq c) (keep_le c 2 0)) $$ HA; iintro HA
  iapply (wp_load_b B c) $$ HB; iintro HB
  rw [wp_ret]; imodintro
  iapply Hk
  isplitl [HA]; · iexact HA
  isplitl [HB]; · iexact HB
  isplitl [Hr]; · iexact Hr
  isplitl [HO]; · iexact HO
  isplitl [Ho0]; · iexact Ho0
  iexact Ho1

/-- Group 0's first exchange ends. -/
theorem part5_run (c : Dev nD) (v5 v32 v44 v96 : BitVec 32) {Q : _ → sProp 𝕄} :
    iprop(records A B K Kb ∗ ouAny (F := F) c (keep c 2 0) 256 (keep_le c 2 0) ∗ ou c (keep c 0 0) 256 (keep_le c 0 0) (prodAt A B c (keep c 0 0) (keep_le c 0 0)) ∗ rsSent (F := F) c 0 0 ∗ owing (F := F) c 6)
      ⊢ iprop((∀ w1 w2, ou c (keep c 2 0) 256 (keep_le c 2 0) (prodAt A B c (keep c 2 0) (keep_le c 2 0)) ∗ ou c (keep c 0 0) 256 (keep_le c 0 0) (prodAt A B c (keep c 0 0) (keep_le c 0 0)) ∗ rsDone (F := F) c 0 0 ∗ owing (F := F) c 6 ∗ sbAny (F := F) c 0 0 ∗ rb c 0 0 (up (sv A B (peer c (rsAx 0 0)) 0 0)) -∗ Q ⟨k0_pay12 (prodAt A B c (keep c 0 0) (keep_le c 0 0)) (up (n := rsN 0) (sv A B (peer c (rsAx 0 0)) 0 0)), w1, w2⟩)
        -∗ wp frame (wpE (defs₀ (F := F)) 𝒱₀ (c : Thread nD τ) none) Set.univ
          (k0_part5 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v5 v32 v44 v96 (k0_pay9 (ablk A c (keep c 2 0) (keep_le c 2 0))) (k0_pay10 (B c))) Q) := by
  rw [k0_part5_eq_skeleton]; unfold k0_part5_skel
  simp only [Prog.lift, Prog.bind_op, Prog.bind_ret, Prog.pure_eq_ret]
  iintro ⟨#HR, Ho2, Ho0, Hr, HO⟩ Hk
  iapply (wp_load_o_any (n := 256) c (off6b_eq c) (keep_le c 2 0)) $$ Ho2; iintro %XHo2 Ho2
  iapply (wp_store_o (n := 256) c (off6b_eq c) (keep_le c 2 0) (prodAt A B c (keep c 2 0) (keep_le c 2 0)) (pay11_eq _ _)) $$ Ho2; iintro Ho2
  iapply (wp_rs_left A B K Kb c 0 0 _ (sem7_eq 0 0 _) 6 (by decide)) $$ [Hr HO]
  · isplitr; · iexact HR
    isplitl [Hr]; · iexact Hr
    iexact HO
  iintro ⟨Hs, Hr, HO⟩
  iapply (wp_rs_done A B K Kb c 0 0 _ (sem8_eq 0 0 _) 6 (by decide)) $$ [Hr HO]
  · isplitr; · iexact HR
    isplitl [Hr]; · iexact Hr
    iexact HO
  iintro ⟨Hb, Hr, HO⟩
  iapply (wp_load_o (n := 256) c (off4_eq c) (keep_le c 0 0)) $$ Ho0; iintro Ho0
  iapply (wp_load_rb c 0 0 rfl) $$ Hb; iintro Hb
  rw [wp_ret]; imodintro
  iapply Hk
  isplitl [Ho2]; · iexact Ho2
  isplitl [Ho0]; · iexact Ho0
  isplitl [Hr]; · iexact Hr
  isplitl [HO]; · iexact HO
  isplitl [Hs]; · iexact Hs
  iexact Hb

/-- Group 0's sum is stored and the half it gives away is sent. -/
theorem part6_run (c : Dev nD) (v2 v5 v44 c1 : BitVec 32) {Q : _ → sProp 𝕄} :
    iprop(records A B K Kb ∗ ou c (keep c 0 0) 256 (keep_le c 0 0) (prodAt A B c (keep c 0 0) (keep_le c 0 0)) ∗ sbAny (F := F) c 0 1 ∗ rsReady (F := F) c 0 1 ∗ owing (F := F) c 6)
      ⊢ iprop((∀ w1, ou c (keep c 0 1) 128 (keep_le c 0 1) (seg (128 * kb c (0 + 1)) 128 (le0 c (0 + 1)) (z0 A B c 0)) ∗ rsSent (F := F) c 0 1 ∗ owing (F := F) c 7 ∗ ou c (give c 0 1) 128 (give_le c 0 1) (seg (128 * (1 - kb c (0 + 1))) 128 (le0' c (0 + 1)) (z0 A B c 0)) -∗ Q w1)
        -∗ wp frame (wpE (defs₀ (F := F)) 𝒱₀ (c : Thread nD τ) none) Set.univ
          (k0_part6 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v5 v44 (k0_pay12 (prodAt A B c (keep c 0 0) (keep_le c 0 0)) (up (n := rsN 0) (sv A B (peer c (rsAx 0 0)) 0 0))) c1) Q) := by
  rw [k0_part6_eq_skeleton]; unfold k0_part6_skel
  simp only [Prog.lift, Prog.bind_op, Prog.bind_ret, Prog.pure_eq_ret]
  iintro ⟨#HR, Ho0, Hs, Hr, HO⟩ Hk
  iapply (wp_load_o (n := 256) c (off4_eq c) (keep_le c 0 0)) $$ Ho0; iintro Ho0
  iapply (wp_store_o (n := 256) c (off4_eq c) (keep_le c 0 0) (z0 A B c 0) (rfl)) $$ Ho0; iintro Ho0
  ihave Ho0 := (ou_split0 c 0 _) $$ Ho0; icases Ho0 with ⟨Ho0, Hg0⟩
  iapply (wp_load_o (n := 128) c (off7_eq c) (give_le c 0 1)) $$ Hg0; iintro Hg0
  iapply (wp_load_sb c 0 1 rfl) $$ Hs; iintro %X01 Hs
  iapply (wp_store_sb A B c 0 1 rfl (pay13_eq _)) $$ Hs; iintro Hs
  iapply (wp_rs_send A B K Kb c _ 0 1 (dev7_eq c) _ _ (sem7_eq 0 1 _) (sem8_eq 0 1 _) 6 rfl) $$ [Hs Hr HO]
  · isplitr; · iexact HR
    isplitl [Hs]; · iexact Hs
    isplitl [Hr]; · iexact Hr
    iexact HO
  iintro ⟨Hr, HO⟩
  rw [wp_ret]; imodintro
  iapply Hk
  isplitl [Ho0]; · iexact Ho0
  isplitl [Hr]; · iexact Hr
  isplitl [HO]; · iexact HO
  iexact Hg0

/-- Group 1's first exchange ends; its sum is stored and the half it gives away copied. -/
theorem part7_run (c : Dev nD) (v7 v58 v70 : BitVec 32) {Q : _ → sProp 𝕄} :
    iprop(records A B K Kb ∗ ou c (keep c 1 0) 256 (keep_le c 1 0) (prodAt A B c (keep c 1 0) (keep_le c 1 0)) ∗ rsSent (F := F) c 1 0 ∗ sbAny (F := F) c 1 1 ∗ owing (F := F) c 7)
      ⊢ iprop((∀ w1 w2, ou c (keep c 1 1) 128 (keep_le c 1 1) (seg (128 * kb c (1 + 1)) 128 (le0 c (1 + 1)) (z0 A B c 1)) ∗ rsDone (F := F) c 1 0 ∗ sb c 1 1 (up (sv A B c 1 1)) ∗ owing (F := F) c 7 ∗ sbAny (F := F) c 1 0 ∗ rb c 1 0 (up (sv A B (peer c (rsAx 1 0)) 1 0)) ∗ ou c (give c 1 1) 128 (give_le c 1 1) (seg (128 * (1 - kb c (1 + 1))) 128 (le0' c (1 + 1)) (z0 A B c 1)) -∗ Q ⟨w1, w2⟩)
        -∗ wp frame (wpE (defs₀ (F := F)) 𝒱₀ (c : Thread nD τ) none) Set.univ
          (k0_part7 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v7 v58 v70) Q) := by
  rw [k0_part7_eq_skeleton]; unfold k0_part7_skel
  simp only [Prog.lift, Prog.bind_op, Prog.bind_ret, Prog.pure_eq_ret]
  iintro ⟨#HR, Ho1, Hr, Hs1, HO⟩ Hk
  iapply (wp_rs_left A B K Kb c 1 0 _ (sem7_eq 1 0 _) 7 (by decide)) $$ [Hr HO]
  · isplitr; · iexact HR
    isplitl [Hr]; · iexact Hr
    iexact HO
  iintro ⟨Hs, Hr, HO⟩
  iapply (wp_rs_done A B K Kb c 1 0 _ (sem8_eq 1 0 _) 7 (by decide)) $$ [Hr HO]
  · isplitr; · iexact HR
    isplitl [Hr]; · iexact Hr
    iexact HO
  iintro ⟨Hb, Hr, HO⟩
  iapply (wp_load_o (n := 256) c (off6a_eq c) (keep_le c 1 0)) $$ Ho1; iintro Ho1
  iapply (wp_load_rb c 1 0 rfl) $$ Hb; iintro Hb
  iapply (wp_load_o (n := 256) c (off6a_eq c) (keep_le c 1 0)) $$ Ho1; iintro Ho1
  iapply (wp_store_o (n := 256) c (off6a_eq c) (keep_le c 1 0) (z0 A B c 1) (pay14_eq _ _)) $$ Ho1; iintro Ho1
  ihave Ho1 := (ou_split0 c 1 _) $$ Ho1; icases Ho1 with ⟨Ho1, Hg1⟩
  iapply (wp_load_o (n := 128) c (off8_eq c) (give_le c 1 1)) $$ Hg1; iintro Hg1
  iapply (wp_load_sb c 1 1 rfl) $$ Hs1; iintro %X11 Hs1
  iapply (wp_store_sb A B c 1 1 rfl (pay15_eq _)) $$ Hs1; iintro Hs1
  rw [wp_ret]; imodintro
  iapply Hk
  isplitl [Ho1]; · iexact Ho1
  isplitl [Hr]; · iexact Hr
  isplitl [Hs1]; · iexact Hs1
  isplitl [HO]; · iexact HO
  isplitl [Hs]; · iexact Hs
  isplitl [Hb]; · iexact Hb
  iexact Hg1

/-- Group 1's half is sent; group 2's first transfer has left. -/
theorem part8_run (c : Dev nD) (v2 v84 c4 : BitVec 32) {Q : _ → sProp 𝕄} :
    iprop(records A B K Kb ∗ sb c 1 1 (up (sv A B c 1 1)) ∗ rsReady (F := F) c 1 1 ∗ rsSent (F := F) c 2 0 ∗ owing (F := F) c 7)
      ⊢ iprop((∀ w1, rsSent (F := F) c 1 1 ∗ rsLeft (F := F) c 2 0 ∗ owing (F := F) c 8 ∗ sbAny (F := F) c 2 0 -∗ Q w1)
        -∗ wp frame (wpE (defs₀ (F := F)) 𝒱₀ (c : Thread nD τ) none) Set.univ
          (k0_part8 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v84 c4) Q) := by
  rw [k0_part8_eq_skeleton]; unfold k0_part8_skel
  simp only [Prog.lift, Prog.bind_op, Prog.bind_ret, Prog.pure_eq_ret]
  iintro ⟨#HR, Hs1, Hr1, Hr, HO⟩ Hk
  iapply (wp_rs_send A B K Kb c _ 1 1 (dev8_eq c) _ _ (sem7_eq 1 1 _) (sem8_eq 1 1 _) 7 rfl) $$ [Hs1 Hr1 HO]
  · isplitr; · iexact HR
    isplitl [Hs1]; · iexact Hs1
    isplitl [Hr1]; · iexact Hr1
    iexact HO
  iintro ⟨Hr1, HO⟩
  iapply (wp_rs_left A B K Kb c 2 0 _ (sem7_eq 2 0 _) 8 (by decide)) $$ [Hr HO]
  · isplitr; · iexact HR
    isplitl [Hr]; · iexact Hr
    iexact HO
  iintro ⟨Hs, Hr, HO⟩
  rw [wp_ret]; imodintro
  iapply Hk
  isplitl [Hr1]; · iexact Hr1
  isplitl [Hr]; · iexact Hr
  isplitl [HO]; · iexact HO
  iexact Hs

/-- Group 2's first exchange ends; its sum is stored and the half it gives away copied. -/
theorem part9_run (c : Dev nD) (v2 v8 v96 : BitVec 32) {Q : _ → sProp 𝕄} :
    iprop(records A B K Kb ∗ ou c (keep c 2 0) 256 (keep_le c 2 0) (prodAt A B c (keep c 2 0) (keep_le c 2 0)) ∗ rsLeft (F := F) c 2 0 ∗ sbAny (F := F) c 2 1 ∗ owing (F := F) c 8)
      ⊢ iprop((∀ w1 w2, ou c (keep c 2 1) 128 (keep_le c 2 1) (seg (128 * kb c (2 + 1)) 128 (le0 c (2 + 1)) (z0 A B c 2)) ∗ rsDone (F := F) c 2 0 ∗ sb c 2 1 (up (sv A B c 2 1)) ∗ owing (F := F) c 8 ∗ rb c 2 0 (up (sv A B (peer c (rsAx 2 0)) 2 0)) ∗ ou c (give c 2 1) 128 (give_le c 2 1) (seg (128 * (1 - kb c (2 + 1))) 128 (le0' c (2 + 1)) (z0 A B c 2)) -∗ Q ⟨w1, w2⟩)
        -∗ wp frame (wpE (defs₀ (F := F)) 𝒱₀ (c : Thread nD τ) none) Set.univ
          (k0_part9 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v8 v96) Q) := by
  rw [k0_part9_eq_skeleton]; unfold k0_part9_skel
  simp only [Prog.lift, Prog.bind_op, Prog.bind_ret, Prog.pure_eq_ret]
  iintro ⟨#HR, Ho2, Hr, Hs1, HO⟩ Hk
  iapply (wp_rs_done A B K Kb c 2 0 _ (sem8_eq 2 0 _) 8 (by decide)) $$ [Hr HO]
  · isplitr; · iexact HR
    isplitl [Hr]; · iexact Hr
    iexact HO
  iintro ⟨Hb, Hr, HO⟩
  iapply (wp_load_o (n := 256) c (off6b_eq c) (keep_le c 2 0)) $$ Ho2; iintro Ho2
  iapply (wp_load_rb c 2 0 rfl) $$ Hb; iintro Hb
  iapply (wp_load_o (n := 256) c (off6b_eq c) (keep_le c 2 0)) $$ Ho2; iintro Ho2
  iapply (wp_store_o (n := 256) c (off6b_eq c) (keep_le c 2 0) (z0 A B c 2) (pay16_eq _ _)) $$ Ho2; iintro Ho2
  ihave Ho2 := (ou_split0 c 2 _) $$ Ho2; icases Ho2 with ⟨Ho2, Hg2⟩
  iapply (wp_load_o (n := 128) c (off9_eq c) (give_le c 2 1)) $$ Hg2; iintro Hg2
  iapply (wp_load_sb c 2 1 rfl) $$ Hs1; iintro %X21 Hs1
  iapply (wp_store_sb A B c 2 1 rfl (pay17_eq _)) $$ Hs1; iintro Hs1
  rw [wp_ret]; imodintro
  iapply Hk
  isplitl [Ho2]; · iexact Ho2
  isplitl [Hr]; · iexact Hr
  isplitl [Hs1]; · iexact Hs1
  isplitl [HO]; · iexact HO
  isplitl [Hb]; · iexact Hb
  iexact Hg2

end Cert.KernelIdealProof
-- ==== Proof.KernelIdeal.Parts2.lean ====
/-
  The kernel's body, parts 10 to 18: the rest of the reduction, and the activation.
-/
module

public import proofs.«01_k».proof.Proof.KernelIdeal.Parts1

@[expose] public section

set_option maxRecDepth 16384

noncomputable section

namespace Cert.KernelIdealProof

open Cert.KernelIdeal Cert.KernelIdeal.Gen Cert.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S1536x768 .f32) (B : Dev nD → Vec F S768x1536 .f32)
variable (K : Dev nD × Cx → ℕ) (Kb : Dev nD → ℕ)

/-- Group 2's half is sent; group 0's second exchange ends. -/
theorem part10_run (c : Dev nD) (v7 v143 v156 : BitVec 32) {Q : _ → sProp 𝕄} :
    iprop(records A B K Kb ∗ ou c (keep c 0 1) 128 (keep_le c 0 1) (seg (128 * kb c (0 + 1)) 128 (le0 c (0 + 1)) (z0 A B c 0)) ∗ sb c 2 1 (up (sv A B c 2 1)) ∗ rsReady (F := F) c 2 1 ∗ rsSent (F := F) c 0 1 ∗ owing (F := F) c 8)
      ⊢ iprop((∀ w1 w2, ou c (keep c 0 1) 128 (keep_le c 0 1) (seg (128 * kb c (0 + 1)) 128 (le0 c (0 + 1)) (z0 A B c 0)) ∗ rsSent (F := F) c 2 1 ∗ rsDone (F := F) c 0 1 ∗ owing (F := F) c 9 ∗ sbAny (F := F) c 0 1 ∗ rb c 0 1 (up (sv A B (peer c (rsAx 0 1)) 0 1)) -∗ Q ⟨k0_pay18 (seg (128 * kb c (0 + 1)) 128 (le0 c (0 + 1)) (z0 A B c 0)) (up (n := rsN 1) (sv A B (peer c (rsAx 0 1)) 0 1)), w1, w2⟩)
        -∗ wp frame (wpE (defs₀ (F := F)) 𝒱₀ (c : Thread nD τ) none) Set.univ
          (k0_part10 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v7 v143 v156) Q) := by
  rw [k0_part10_eq_skeleton]; unfold k0_part10_skel
  simp only [Prog.lift, Prog.bind_op, Prog.bind_ret, Prog.pure_eq_ret]
  iintro ⟨#HR, Ho0, Hs2, Hr2, Hr, HO⟩ Hk
  iapply (wp_rs_send A B K Kb c _ 2 1 (dev9_eq c) _ _ (sem7_eq 2 1 _) (sem8_eq 2 1 _) 8 rfl) $$ [Hs2 Hr2 HO]
  · isplitr; · iexact HR
    isplitl [Hs2]; · iexact Hs2
    isplitl [Hr2]; · iexact Hr2
    iexact HO
  iintro ⟨Hr2, HO⟩
  iapply (wp_rs_left A B K Kb c 0 1 _ (sem7_eq 0 1 _) 9 (by decide)) $$ [Hr HO]
  · isplitr; · iexact HR
    isplitl [Hr]; · iexact Hr
    iexact HO
  iintro ⟨Hs, Hr, HO⟩
  iapply (wp_rs_done A B K Kb c 0 1 _ (sem8_eq 0 1 _) 9 (by decide)) $$ [Hr HO]
  · isplitr; · iexact HR
    isplitl [Hr]; · iexact Hr
    iexact HO
  iintro ⟨Hb, Hr, HO⟩
  iapply (wp_load_o (n := 128) c (off10_eq c) (keep_le c 0 1)) $$ Ho0; iintro Ho0
  iapply (wp_load_rb c 0 1 rfl) $$ Hb; iintro Hb
  rw [wp_ret]; imodintro
  iapply Hk
  isplitl [Ho0]; · iexact Ho0
  isplitl [Hr2]; · iexact Hr2
  isplitl [Hr]; · iexact Hr
  isplitl [HO]; · iexact HO
  isplitl [Hs]; · iexact Hs
  iexact Hb

/-- Group 0's sum is stored and the quarter it gives away sent; group 1's second transfer has left. -/
theorem part11_run (c : Dev nD) (v2 v143 v283 : BitVec 32) {Q : _ → sProp 𝕄} :
    iprop(records A B K Kb ∗ ou c (keep c 0 1) 128 (keep_le c 0 1) (seg (128 * kb c (0 + 1)) 128 (le0 c (0 + 1)) (z0 A B c 0)) ∗ sbAny (F := F) c 0 2 ∗ rsReady (F := F) c 0 2 ∗ rsSent (F := F) c 1 1 ∗ owing (F := F) c 9)
      ⊢ iprop((∀ w1, ou c (keep c 0 2) 64 (keep_le c 0 2) (seg (64 * kb c (0 + 2)) 64 (le1 c (0 + 2)) (z1 A B c 0)) ∗ rsSent (F := F) c 0 2 ∗ rsLeft (F := F) c 1 1 ∗ owing (F := F) c 10 ∗ ou c (give c 0 2) 64 (give_le c 0 2) (seg (64 * (1 - kb c (0 + 2))) 64 (le1' c (0 + 2)) (z1 A B c 0)) ∗ sbAny (F := F) c 1 1 -∗ Q w1)
        -∗ wp frame (wpE (defs₀ (F := F)) 𝒱₀ (c : Thread nD τ) none) Set.univ
          (k0_part11 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v143 (k0_pay18 (seg (128 * kb c (0 + 1)) 128 (le0 c (0 + 1)) (z0 A B c 0)) (up (n := rsN 1) (sv A B (peer c (rsAx 0 1)) 0 1))) v283) Q) := by
  rw [k0_part11_eq_skeleton]; unfold k0_part11_skel
  simp only [Prog.lift, Prog.bind_op, Prog.bind_ret, Prog.pure_eq_ret]
  iintro ⟨#HR, Ho0, Hs, Hr, Hr1, HO⟩ Hk
  iapply (wp_load_o (n := 128) c (off10_eq c) (keep_le c 0 1)) $$ Ho0; iintro Ho0
  iapply (wp_store_o (n := 128) c (off10_eq c) (keep_le c 0 1) (z1 A B c 0) (rfl)) $$ Ho0; iintro Ho0
  ihave Ho0 := (ou_split1 c 0 _) $$ Ho0; icases Ho0 with ⟨Ho0, Hg0⟩
  iapply (wp_load_o (n := 64) c (off11_eq c) (give_le c 0 2)) $$ Hg0; iintro Hg0
  iapply (wp_load_sb c 0 2 rfl) $$ Hs; iintro %X02 Hs
  iapply (wp_store_sb A B c 0 2 rfl (pay19_eq _)) $$ Hs; iintro Hs
  iapply (wp_rs_send A B K Kb c _ 0 2 (dev10_eq c) _ _ (sem7_eq 0 2 _) (sem8_eq 0 2 _) 9 rfl) $$ [Hs Hr HO]
  · isplitr; · iexact HR
    isplitl [Hs]; · iexact Hs
    isplitl [Hr]; · iexact Hr
    iexact HO
  iintro ⟨Hr, HO⟩
  iapply (wp_rs_left A B K Kb c 1 1 _ (sem7_eq 1 1 _) 10 (by decide)) $$ [Hr1 HO]
  · isplitr; · iexact HR
    isplitl [Hr1]; · iexact Hr1
    iexact HO
  iintro ⟨Hs1, Hr1, HO⟩
  rw [wp_ret]; imodintro
  iapply Hk
  isplitl [Ho0]; · iexact Ho0
  isplitl [Hr]; · iexact Hr
  isplitl [Hr1]; · iexact Hr1
  isplitl [HO]; · iexact HO
  isplitl [Hg0]; · iexact Hg0
  iexact Hs1

/-- Group 1's second exchange ends; its sum is stored and the quarter it gives away copied. -/
theorem part12_run (c : Dev nD) (v2 v8 v189 v202 : BitVec 32) {Q : _ → sProp 𝕄} :
    iprop(records A B K Kb ∗ ou c (keep c 1 1) 128 (keep_le c 1 1) (seg (128 * kb c (1 + 1)) 128 (le0 c (1 + 1)) (z0 A B c 1)) ∗ rsLeft (F := F) c 1 1 ∗ sbAny (F := F) c 1 2 ∗ owing (F := F) c 10)
      ⊢ iprop((∀ w1 w2, ou c (keep c 1 2) 64 (keep_le c 1 2) (seg (64 * kb c (1 + 2)) 64 (le1 c (1 + 2)) (z1 A B c 1)) ∗ rsDone (F := F) c 1 1 ∗ sb c 1 2 (up (sv A B c 1 2)) ∗ owing (F := F) c 10 ∗ rb c 1 1 (up (sv A B (peer c (rsAx 1 1)) 1 1)) ∗ ou c (give c 1 2) 64 (give_le c 1 2) (seg (64 * (1 - kb c (1 + 2))) 64 (le1' c (1 + 2)) (z1 A B c 1)) -∗ Q ⟨w1, w2⟩)
        -∗ wp frame (wpE (defs₀ (F := F)) 𝒱₀ (c : Thread nD τ) none) Set.univ
          (k0_part12 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v8 v189 v202) Q) := by
  rw [k0_part12_eq_skeleton]; unfold k0_part12_skel
  simp only [Prog.lift, Prog.bind_op, Prog.bind_ret, Prog.pure_eq_ret]
  iintro ⟨#HR, Ho1, Hr, Hs1, HO⟩ Hk
  iapply (wp_rs_done A B K Kb c 1 1 _ (sem8_eq 1 1 _) 10 (by decide)) $$ [Hr HO]
  · isplitr; · iexact HR
    isplitl [Hr]; · iexact Hr
    iexact HO
  iintro ⟨Hb, Hr, HO⟩
  iapply (wp_load_o (n := 128) c (off12_eq c) (keep_le c 1 1)) $$ Ho1; iintro Ho1
  iapply (wp_load_rb c 1 1 rfl) $$ Hb; iintro Hb
  iapply (wp_load_o (n := 128) c (off12_eq c) (keep_le c 1 1)) $$ Ho1; iintro Ho1
  iapply (wp_store_o (n := 128) c (off12_eq c) (keep_le c 1 1) (z1 A B c 1) (pay20_eq _ _)) $$ Ho1; iintro Ho1
  ihave Ho1 := (ou_split1 c 1 _) $$ Ho1; icases Ho1 with ⟨Ho1, Hg1⟩
  iapply (wp_load_o (n := 64) c (off13_eq c) (give_le c 1 2)) $$ Hg1; iintro Hg1
  iapply (wp_load_sb c 1 2 rfl) $$ Hs1; iintro %X12 Hs1
  iapply (wp_store_sb A B c 1 2 rfl (pay21_eq _)) $$ Hs1; iintro Hs1
  rw [wp_ret]; imodintro
  iapply Hk
  isplitl [Ho1]; · iexact Ho1
  isplitl [Hr]; · iexact Hr
  isplitl [Hs1]; · iexact Hs1
  isplitl [HO]; · iexact HO
  isplitl [Hb]; · iexact Hb
  iexact Hg1

/-- Group 1's quarter is sent; group 2's second exchange ends. -/
theorem part13_run (c : Dev nD) (v248 v340 : BitVec 32) {Q : _ → sProp 𝕄} :
    iprop(records A B K Kb ∗ sb c 1 2 (up (sv A B c 1 2)) ∗ rsReady (F := F) c 1 2 ∗ rsSent (F := F) c 2 1 ∗ owing (F := F) c 10)
      ⊢ iprop((rsSent (F := F) c 1 2 ∗ rsDone (F := F) c 2 1 ∗ owing (F := F) c 11 ∗ sbAny (F := F) c 2 1 ∗ rb c 2 1 (up (sv A B (peer c (rsAx 2 1)) 2 1)) -∗ Q ⟨⟩)
        -∗ wp frame (wpE (defs₀ (F := F)) 𝒱₀ (c : Thread nD τ) none) Set.univ
          (k0_part13 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v248 v340) Q) := by
  rw [k0_part13_eq_skeleton]; unfold k0_part13_skel
  simp only [Prog.lift, Prog.bind_op, Prog.bind_ret, Prog.pure_eq_ret]
  iintro ⟨#HR, Hs1, Hr1, Hr, HO⟩ Hk
  iapply (wp_rs_send A B K Kb c _ 1 2 (dev11_eq c) _ _ (sem7_eq 1 2 _) (sem8_eq 1 2 _) 10 rfl) $$ [Hs1 Hr1 HO]
  · isplitr; · iexact HR
    isplitl [Hs1]; · iexact Hs1
    isplitl [Hr1]; · iexact Hr1
    iexact HO
  iintro ⟨Hr1, HO⟩
  iapply (wp_rs_left A B K Kb c 2 1 _ (sem7_eq 2 1 _) 11 (by decide)) $$ [Hr HO]
  · isplitr; · iexact HR
    isplitl [Hr]; · iexact Hr
    iexact HO
  iintro ⟨Hs, Hr, HO⟩
  iapply (wp_rs_done A B K Kb c 2 1 _ (sem8_eq 2 1 _) 11 (by decide)) $$ [Hr HO]
  · isplitr; · iexact HR
    isplitl [Hr]; · iexact Hr
    iexact HO
  iintro ⟨Hb, Hr, HO⟩
  rw [wp_ret]; imodintro
  iapply Hk
  isplitl [Hr1]; · iexact Hr1
  isplitl [Hr]; · iexact Hr
  isplitl [HO]; · iexact HO
  isplitl [Hs]; · iexact Hs
  iexact Hb

/-- Group 2's sum is stored and the quarter it gives away sent. -/
theorem part14_run (c : Dev nD) (v2 v5 v235 : BitVec 32) {Q : _ → sProp 𝕄} :
    iprop(records A B K Kb ∗ ou c (keep c 2 1) 128 (keep_le c 2 1) (seg (128 * kb c (2 + 1)) 128 (le0 c (2 + 1)) (z0 A B c 2)) ∗ rb c 2 1 (up (sv A B (peer c (rsAx 2 1)) 2 1)) ∗ sbAny (F := F) c 2 2 ∗ rsReady (F := F) c 2 2 ∗ owing (F := F) c 11)
      ⊢ iprop((∀ w1 w2, ou c (keep c 2 2) 64 (keep_le c 2 2) (seg (64 * kb c (2 + 2)) 64 (le1 c (2 + 2)) (z1 A B c 2)) ∗ rb c 2 1 (up (sv A B (peer c (rsAx 2 1)) 2 1)) ∗ rsSent (F := F) c 2 2 ∗ owing (F := F) c 12 ∗ ou c (give c 2 2) 64 (give_le c 2 2) (seg (64 * (1 - kb c (2 + 2))) 64 (le1' c (2 + 2)) (z1 A B c 2)) -∗ Q ⟨w1, w2⟩)
        -∗ wp frame (wpE (defs₀ (F := F)) 𝒱₀ (c : Thread nD τ) none) Set.univ
          (k0_part14 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v5 v235) Q) := by
  rw [k0_part14_eq_skeleton]; unfold k0_part14_skel
  simp only [Prog.lift, Prog.bind_op, Prog.bind_ret, Prog.pure_eq_ret]
  iintro ⟨#HR, Ho2, Hb, Hs, Hr, HO⟩ Hk
  iapply (wp_load_o (n := 128) c (off14_eq c) (keep_le c 2 1)) $$ Ho2; iintro Ho2
  iapply (wp_load_rb c 2 1 rfl) $$ Hb; iintro Hb
  iapply (wp_load_o (n := 128) c (off14_eq c) (keep_le c 2 1)) $$ Ho2; iintro Ho2
  iapply (wp_store_o (n := 128) c (off14_eq c) (keep_le c 2 1) (z1 A B c 2) (pay22_eq _ _)) $$ Ho2; iintro Ho2
  ihave Ho2 := (ou_split1 c 2 _) $$ Ho2; icases Ho2 with ⟨Ho2, Hg2⟩
  iapply (wp_load_o (n := 64) c (off15_eq c) (give_le c 2 2)) $$ Hg2; iintro Hg2
  iapply (wp_load_sb c 2 2 rfl) $$ Hs; iintro %X22 Hs
  iapply (wp_store_sb A B c 2 2 rfl (pay23_eq _)) $$ Hs; iintro Hs
  iapply (wp_rs_send A B K Kb c _ 2 2 (dev12_eq c) _ _ (sem7_eq 2 2 _) (sem8_eq 2 2 _) 11 rfl) $$ [Hs Hr HO]
  · isplitr; · iexact HR
    isplitl [Hs]; · iexact Hs
    isplitl [Hr]; · iexact Hr
    iexact HO
  iintro ⟨Hr, HO⟩
  rw [wp_ret]; imodintro
  iapply Hk
  isplitl [Ho2]; · iexact Ho2
  isplitl [Hb]; · iexact Hb
  isplitl [Hr]; · iexact Hr
  isplitl [HO]; · iexact HO
  iexact Hg2

/-- Group 0's third exchange ends. -/
theorem part15_run (c : Dev nD) (v281 v294 : BitVec 32) {Q : _ → sProp 𝕄} :
    iprop(records A B K Kb ∗ ou c (keep c 0 2) 64 (keep_le c 0 2) (seg (64 * kb c (0 + 2)) 64 (le1 c (0 + 2)) (z1 A B c 0)) ∗ rsSent (F := F) c 0 2 ∗ owing (F := F) c 12)
      ⊢ iprop((ou c (keep c 0 2) 64 (keep_le c 0 2) (seg (64 * kb c (0 + 2)) 64 (le1 c (0 + 2)) (z1 A B c 0)) ∗ rsDone (F := F) c 0 2 ∗ owing (F := F) c 12 ∗ sbAny (F := F) c 0 2 ∗ rb c 0 2 (up (sv A B (peer c (rsAx 0 2)) 0 2)) -∗ Q ⟨k0_pay25 (seg (64 * kb c (0 + 2)) 64 (le1 c (0 + 2)) (z1 A B c 0)) (up (n := rsN 2) (sv A B (peer c (rsAx 0 2)) 0 2)), k0_pay26 (seg (64 * kb c (0 + 2)) 64 (le1 c (0 + 2)) (z1 A B c 0)) (up (n := rsN 2) (sv A B (peer c (rsAx 0 2)) 0 2)), Scalar.ofBits .f32 0x3F4C422A#32⟩)
        -∗ wp frame (wpE (defs₀ (F := F)) 𝒱₀ (c : Thread nD τ) none) Set.univ
          (k0_part15 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v281 v294) Q) := by
  rw [k0_part15_eq_skeleton]; unfold k0_part15_skel
  simp only [Prog.lift, Prog.bind_op, Prog.bind_ret, Prog.pure_eq_ret]
  iintro ⟨#HR, Ho0, Hr, HO⟩ Hk
  iapply (wp_rs_left A B K Kb c 0 2 _ (sem7_eq 0 2 _) 12 (by decide)) $$ [Hr HO]
  · isplitr; · iexact HR
    isplitl [Hr]; · iexact Hr
    iexact HO
  iintro ⟨Hs, Hr, HO⟩
  iapply (wp_rs_done A B K Kb c 0 2 _ (sem8_eq 0 2 _) 12 (by decide)) $$ [Hr HO]
  · isplitr; · iexact HR
    isplitl [Hr]; · iexact Hr
    iexact HO
  iintro ⟨Hb, Hr, HO⟩
  iapply (wp_load_o (n := 64) c (off16_eq c) (keep_le c 0 2)) $$ Ho0; iintro Ho0
  iapply (wp_load_rb c 0 2 rfl) $$ Hb; iintro Hb
  rw [wp_ret]; imodintro
  iapply Hk
  isplitl [Ho0]; · iexact Ho0
  isplitl [Hr]; · iexact Hr
  isplitl [HO]; · iexact HO
  isplitl [Hs]; · iexact Hs
  iexact Hb

/-- Group 0's activated rows are stored; group 1's third exchange ends. -/
theorem part16_run (c : Dev nD) (v281 v327 v340 : BitVec 32) {Q : _ → sProp 𝕄} :
    iprop(records A B K Kb ∗ agAny (F := F) c (keep c 0 2) 64 (keep_le c 0 2) ∗ ou c (keep c 1 2) 64 (keep_le c 1 2) (seg (64 * kb c (1 + 2)) 64 (le1 c (1 + 2)) (z1 A B c 1)) ∗ rsSent (F := F) c 1 2 ∗ owing (F := F) c 12)
      ⊢ iprop((agW A B c (keep c 0 2) 64 (keep_le c 0 2) ∗ ou c (keep c 1 2) 64 (keep_le c 1 2) (seg (64 * kb c (1 + 2)) 64 (le1 c (1 + 2)) (z1 A B c 1)) ∗ rsDone (F := F) c 1 2 ∗ owing (F := F) c 12 ∗ sbAny (F := F) c 1 2 ∗ rb c 1 2 (up (sv A B (peer c (rsAx 1 2)) 1 2)) -∗ Q (k0_pay28 (seg (64 * kb c (1 + 2)) 64 (le1 c (1 + 2)) (z1 A B c 1))))
        -∗ wp frame (wpE (defs₀ (F := F)) 𝒱₀ (c : Thread nD τ) none) Set.univ
          (k0_part16 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v281 v327 v340 (k0_pay25 (seg (64 * kb c (0 + 2)) 64 (le1 c (0 + 2)) (z1 A B c 0)) (up (n := rsN 2) (sv A B (peer c (rsAx 0 2)) 0 2))) (k0_pay26 (seg (64 * kb c (0 + 2)) 64 (le1 c (0 + 2)) (z1 A B c 0)) (up (n := rsN 2) (sv A B (peer c (rsAx 0 2)) 0 2))) (Scalar.ofBits .f32 0x3F4C422A#32)) Q) := by
  rw [k0_part16_eq_skeleton]; unfold k0_part16_skel
  simp only [Prog.lift, Prog.bind_op, Prog.bind_ret, Prog.pure_eq_ret]
  iintro ⟨#HR, Hw, Ho1, Hr, HO⟩ Hk
  iapply (wp_load_ag (n := 64) c (off16_eq c) (keep_le c 0 2)) $$ Hw; iintro %YHw Hw
  iapply (wp_store_ag (n := 64) A B c (off16_eq c) (keep_le c 0 2) ((pay27_eq _ _).trans (act_eq A B c 0 _))) $$ Hw; iintro Hw
  iapply (wp_rs_left A B K Kb c 1 2 _ (sem7_eq 1 2 _) 12 (by decide)) $$ [Hr HO]
  · isplitr; · iexact HR
    isplitl [Hr]; · iexact Hr
    iexact HO
  iintro ⟨Hs, Hr, HO⟩
  iapply (wp_rs_done A B K Kb c 1 2 _ (sem8_eq 1 2 _) 12 (by decide)) $$ [Hr HO]
  · isplitr; · iexact HR
    isplitl [Hr]; · iexact Hr
    iexact HO
  iintro ⟨Hb, Hr, HO⟩
  iapply (wp_load_o (n := 64) c (off17_eq c) (keep_le c 1 2)) $$ Ho1; iintro Ho1
  rw [wp_ret]; imodintro
  iapply Hk
  isplitl [Hw]; · iexact Hw
  isplitl [Ho1]; · iexact Ho1
  isplitl [Hr]; · iexact Hr
  isplitl [HO]; · iexact HO
  isplitl [Hs]; · iexact Hs
  iexact Hb

/-- Group 1's activated rows are stored; group 2's third transfer has left. -/
theorem part17_run (c : Dev nD) (v327 v386 : BitVec 32) {Q : _ → sProp 𝕄} :
    iprop(records A B K Kb ∗ rb c 1 2 (up (sv A B (peer c (rsAx 1 2)) 1 2)) ∗ agAny (F := F) c (keep c 1 2) 64 (keep_le c 1 2) ∗ rsSent (F := F) c 2 2 ∗ owing (F := F) c 12)
      ⊢ iprop((rb c 1 2 (up (sv A B (peer c (rsAx 1 2)) 1 2)) ∗ agW A B c (keep c 1 2) 64 (keep_le c 1 2) ∗ rsLeft (F := F) c 2 2 ∗ owing (F := F) c 12 ∗ sbAny (F := F) c 2 2 -∗ Q ⟨⟩)
        -∗ wp frame (wpE (defs₀ (F := F)) 𝒱₀ (c : Thread nD τ) none) Set.univ
          (k0_part17 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v327 v386 (k0_pay28 (seg (64 * kb c (1 + 2)) 64 (le1 c (1 + 2)) (z1 A B c 1)))) Q) := by
  rw [k0_part17_eq_skeleton]; unfold k0_part17_skel
  simp only [Prog.lift, Prog.bind_op, Prog.bind_ret, Prog.pure_eq_ret]
  iintro ⟨#HR, Hb, Hw, Hr, HO⟩ Hk
  iapply (wp_load_rb c 1 2 rfl) $$ Hb; iintro Hb
  iapply (wp_load_ag (n := 64) c (off17_eq c) (keep_le c 1 2)) $$ Hw; iintro %YHw Hw
  iapply (wp_store_ag (n := 64) A B c (off17_eq c) (keep_le c 1 2) ((pay29_eq _ _).trans (act_eq A B c 1 _))) $$ Hw; iintro Hw
  iapply (wp_rs_left A B K Kb c 2 2 _ (sem7_eq 2 2 _) 12 (by decide)) $$ [Hr HO]
  · isplitr; · iexact HR
    isplitl [Hr]; · iexact Hr
    iexact HO
  iintro ⟨Hs, Hr, HO⟩
  rw [wp_ret]; imodintro
  iapply Hk
  isplitl [Hb]; · iexact Hb
  isplitl [Hw]; · iexact Hw
  isplitl [Hr]; · iexact Hr
  isplitl [HO]; · iexact HO
  iexact Hs

/-- Group 2's third exchange ends and its activated rows are stored. -/
theorem part18_run (c : Dev nD) (v2 v373 : BitVec 32) {Q : _ → sProp 𝕄} :
    iprop(records A B K Kb ∗ ou c (keep c 2 2) 64 (keep_le c 2 2) (seg (64 * kb c (2 + 2)) 64 (le1 c (2 + 2)) (z1 A B c 2)) ∗ agAny (F := F) c (keep c 2 2) 64 (keep_le c 2 2) ∗ rsLeft (F := F) c 2 2 ∗ owing (F := F) c 12)
      ⊢ iprop((∀ w1, ou c (keep c 2 2) 64 (keep_le c 2 2) (seg (64 * kb c (2 + 2)) 64 (le1 c (2 + 2)) (z1 A B c 2)) ∗ agW A B c (keep c 2 2) 64 (keep_le c 2 2) ∗ rsDone (F := F) c 2 2 ∗ owing (F := F) c 12 ∗ rb c 2 2 (up (sv A B (peer c (rsAx 2 2)) 2 2)) -∗ Q w1)
        -∗ wp frame (wpE (defs₀ (F := F)) 𝒱₀ (c : Thread nD τ) none) Set.univ
          (k0_part18 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v373) Q) := by
  rw [k0_part18_eq_skeleton]; unfold k0_part18_skel
  simp only [Prog.lift, Prog.bind_op, Prog.bind_ret, Prog.pure_eq_ret]
  iintro ⟨#HR, Ho2, Hw, Hr, HO⟩ Hk
  iapply (wp_rs_done A B K Kb c 2 2 _ (sem8_eq 2 2 _) 12 (by decide)) $$ [Hr HO]
  · isplitr; · iexact HR
    isplitl [Hr]; · iexact Hr
    iexact HO
  iintro ⟨Hb, Hr, HO⟩
  iapply (wp_load_o (n := 64) c (off18_eq c) (keep_le c 2 2)) $$ Ho2; iintro Ho2
  iapply (wp_load_rb c 2 2 rfl) $$ Hb; iintro Hb
  iapply (wp_load_ag (n := 64) c (off18_eq c) (keep_le c 2 2)) $$ Hw; iintro %YHw Hw
  iapply (wp_store_ag (n := 64) A B c (off18_eq c) (keep_le c 2 2) (act_eq A B c 2 _)) $$ Hw; iintro Hw
  rw [wp_ret]; imodintro
  iapply Hk
  isplitl [Ho2]; · iexact Ho2
  isplitl [Hw]; · iexact Hw
  isplitl [Hr]; · iexact Hr
  isplitl [HO]; · iexact HO
  iexact Hb

end Cert.KernelIdealProof
-- ==== Proof.KernelIdeal.Parts3.lean ====
/-
  The kernel's body, parts 19 to 25: the gathering.
-/
module

public import proofs.«01_k».proof.Proof.KernelIdeal.Parts2

@[expose] public section

set_option maxRecDepth 16384

noncomputable section

namespace Cert.KernelIdealProof

open Cert.KernelIdeal Cert.KernelIdeal.Gen Cert.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S1536x768 .f32) (B : Dev nD → Vec F S768x1536 .f32)
variable (K : Dev nD × Cx → ℕ) (Kb : Dev nD → ℕ)

/-- The gathering's first transfers start, and group 0's has left. -/
theorem part19_run (c : Dev nD) (v2 v514 : BitVec 32) {Q : _ → sProp 𝕄} :
    iprop(records A B K Kb ∗ agW A B c (agFrom c 0 0) (agN 0) (agFrom_le c 0 0) ∗ agReady (F := F) c 0 0 ∗ agW A B c (agFrom c 1 0) (agN 0) (agFrom_le c 1 0) ∗ agReady (F := F) c 1 0 ∗ agW A B c (agFrom c 2 0) (agN 0) (agFrom_le c 2 0) ∗ agReady (F := F) c 2 0 ∗ owing (F := F) c 12)
      ⊢ iprop((∀ w1 w2, agLeft (F := F) c 0 0 ∗ agSent (F := F) c 1 0 ∗ agSent (F := F) c 2 0 ∗ owing (F := F) c 15 ∗ agW A B c (agFrom c 0 0) (agN 0) (agFrom_le c 0 0) -∗ Q ⟨w1, w2⟩)
        -∗ wp frame (wpE (defs₀ (F := F)) 𝒱₀ (c : Thread nD τ) none) Set.univ
          (k0_part19 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v514) Q) := by
  rw [k0_part19_eq_skeleton]; unfold k0_part19_skel
  simp only [Prog.lift, Prog.bind_op, Prog.bind_ret, Prog.pure_eq_ret]
  iintro ⟨#HR, Hf0, Hr0, Hf1, Hr1, Hf2, Hr2, HO⟩ Hk
  iapply (wp_ag_send A B K Kb c _ 0 0 (dev13_eq c) _ _ (sem9_eq 0 0 _) (sem10_eq 0 0 _) _ (off19_eq c) 12 rfl) $$ [Hf0 Hr0 HO]
  · isplitr; · iexact HR
    isplitl [Hf0]; · iexact Hf0
    isplitl [Hr0]; · iexact Hr0
    iexact HO
  iintro ⟨Hr0, HO⟩
  iapply (wp_ag_send A B K Kb c _ 1 0 (dev14_eq c) _ _ (sem9_eq 1 0 _) (sem10_eq 1 0 _) _ (off20_eq c) 13 rfl) $$ [Hf1 Hr1 HO]
  · isplitr; · iexact HR
    isplitl [Hf1]; · iexact Hf1
    isplitl [Hr1]; · iexact Hr1
    iexact HO
  iintro ⟨Hr1, HO⟩
  iapply (wp_ag_send A B K Kb c _ 2 0 (dev15_eq c) _ _ (sem9_eq 2 0 _) (sem10_eq 2 0 _) _ (off21_eq c) 14 rfl) $$ [Hf2 Hr2 HO]
  · isplitr; · iexact HR
    isplitl [Hf2]; · iexact Hf2
    isplitl [Hr2]; · iexact Hr2
    iexact HO
  iintro ⟨Hr2, HO⟩
  iapply (wp_ag_left A B K Kb c 0 0 _ (sem9_eq 0 0 _) 15 (by decide)) $$ [Hr0 HO]
  · isplitr; · iexact HR
    isplitl [Hr0]; · iexact Hr0
    iexact HO
  iintro ⟨Hf0, Hr0, HO⟩
  rw [wp_ret]; imodintro
  iapply Hk
  isplitl [Hr0]; · iexact Hr0
  isplitl [Hr1]; · iexact Hr1
  isplitl [Hr2]; · iexact Hr2
  isplitl [HO]; · iexact HO
  iexact Hf0

/-- Group 0's and group 1's first exchanges end; group 2's transfer has left. -/
theorem part20_run (c : Dev nD) (v7 v8 v281 v327 v523 v532 : BitVec 32) {Q : _ → sProp 𝕄} :
    iprop(records A B K Kb ∗ agLeft (F := F) c 0 0 ∗ agSent (F := F) c 1 0 ∗ agSent (F := F) c 2 0 ∗ owing (F := F) c 15)
      ⊢ iprop((∀ w1 w2, agDone (F := F) c 0 0 ∗ agDone (F := F) c 1 0 ∗ agLeft (F := F) c 2 0 ∗ owing (F := F) c 15 ∗ agW A B c (agTo c 0 0) (agN 0) (agTo_le c 0 0) ∗ agW A B c (agFrom c 1 0) (agN 0) (agFrom_le c 1 0) ∗ agW A B c (agTo c 1 0) (agN 0) (agTo_le c 1 0) ∗ agW A B c (agFrom c 2 0) (agN 0) (agFrom_le c 2 0) -∗ Q ⟨w1, w2⟩)
        -∗ wp frame (wpE (defs₀ (F := F)) 𝒱₀ (c : Thread nD τ) none) Set.univ
          (k0_part20 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v7 v8 v281 v327 v523 v532) Q) := by
  rw [k0_part20_eq_skeleton]; unfold k0_part20_skel
  simp only [Prog.lift, Prog.bind_op, Prog.bind_ret, Prog.pure_eq_ret]
  iintro ⟨#HR, Hr0, Hr1, Hr2, HO⟩ Hk
  iapply (wp_ag_done A B K Kb c 0 0 _ (sem10_eq 0 0 _) 15 (by decide)) $$ [Hr0 HO]
  · isplitr; · iexact HR
    isplitl [Hr0]; · iexact Hr0
    iexact HO
  iintro ⟨Ht0, Hr0, HO⟩
  iapply (wp_ag_left A B K Kb c 1 0 _ (sem9_eq 1 0 _) 15 (by decide)) $$ [Hr1 HO]
  · isplitr; · iexact HR
    isplitl [Hr1]; · iexact Hr1
    iexact HO
  iintro ⟨Hf1, Hr1, HO⟩
  iapply (wp_ag_done A B K Kb c 1 0 _ (sem10_eq 1 0 _) 15 (by decide)) $$ [Hr1 HO]
  · isplitr; · iexact HR
    isplitl [Hr1]; · iexact Hr1
    iexact HO
  iintro ⟨Ht1, Hr1, HO⟩
  iapply (wp_ag_left A B K Kb c 2 0 _ (sem9_eq 2 0 _) 15 (by decide)) $$ [Hr2 HO]
  · isplitr; · iexact HR
    isplitl [Hr2]; · iexact Hr2
    iexact HO
  iintro ⟨Hf2, Hr2, HO⟩
  rw [wp_ret]; imodintro
  iapply Hk
  isplitl [Hr0]; · iexact Hr0
  isplitl [Hr1]; · iexact Hr1
  isplitl [Hr2]; · iexact Hr2
  isplitl [HO]; · iexact HO
  isplitl [Ht0]; · iexact Ht0
  isplitl [Hf1]; · iexact Hf1
  isplitl [Ht1]; · iexact Ht1
  iexact Hf2

/-- Group 2's first exchange ends; the second transfers of groups 0 and 1 start. -/
theorem part21_run (c : Dev nD) (v2 v5 v373 : BitVec 32) {Q : _ → sProp 𝕄} :
    iprop(records A B K Kb ∗ agLeft (F := F) c 2 0 ∗ agW A B c (agFrom c 0 1) (agN 1) (agFrom_le c 0 1) ∗ agReady (F := F) c 0 1 ∗ agW A B c (agFrom c 1 1) (agN 1) (agFrom_le c 1 1) ∗ agReady (F := F) c 1 1 ∗ owing (F := F) c 15)
      ⊢ iprop((∀ w1 w2 w3 w4, agDone (F := F) c 2 0 ∗ agSent (F := F) c 0 1 ∗ agSent (F := F) c 1 1 ∗ owing (F := F) c 17 ∗ agW A B c (agTo c 2 0) (agN 0) (agTo_le c 2 0) -∗ Q ⟨w1, w2, w3, w4⟩)
        -∗ wp frame (wpE (defs₀ (F := F)) 𝒱₀ (c : Thread nD τ) none) Set.univ
          (k0_part21 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v5 v373) Q) := by
  rw [k0_part21_eq_skeleton]; unfold k0_part21_skel
  simp only [Prog.lift, Prog.bind_op, Prog.bind_ret, Prog.pure_eq_ret]
  iintro ⟨#HR, Hr2, Hf0, Hr0, Hf1, Hr1, HO⟩ Hk
  iapply (wp_ag_done A B K Kb c 2 0 _ (sem10_eq 2 0 _) 15 (by decide)) $$ [Hr2 HO]
  · isplitr; · iexact HR
    isplitl [Hr2]; · iexact Hr2
    iexact HO
  iintro ⟨Ht2, Hr2, HO⟩
  iapply (wp_ag_send A B K Kb c _ 0 1 (dev16_eq c) _ _ (sem9_eq 0 1 _) (sem10_eq 0 1 _) _ (off22_eq c) 15 rfl) $$ [Hf0 Hr0 HO]
  · isplitr; · iexact HR
    isplitl [Hf0]; · iexact Hf0
    isplitl [Hr0]; · iexact Hr0
    iexact HO
  iintro ⟨Hr0, HO⟩
  iapply (wp_ag_send A B K Kb c _ 1 1 (dev17_eq c) _ _ (sem9_eq 1 1 _) (sem10_eq 1 1 _) _ (off23_eq c) 16 rfl) $$ [Hf1 Hr1 HO]
  · isplitr; · iexact HR
    isplitl [Hf1]; · iexact Hf1
    isplitl [Hr1]; · iexact Hr1
    iexact HO
  iintro ⟨Hr1, HO⟩
  rw [wp_ret]; imodintro
  iapply Hk
  isplitl [Hr2]; · iexact Hr2
  isplitl [Hr0]; · iexact Hr0
  isplitl [Hr1]; · iexact Hr1
  isplitl [HO]; · iexact HO
  iexact Ht2

/-- Group 2's second transfer starts; group 0's exchange ends; group 1's has left. -/
theorem part22_run (c : Dev nD) (v5 v552 v577 v586 : BitVec 32) {Q : _ → sProp 𝕄} :
    iprop(records A B K Kb ∗ agW A B c (agFrom c 2 1) (agN 1) (agFrom_le c 2 1) ∗ agReady (F := F) c 2 1 ∗ agSent (F := F) c 0 1 ∗ agSent (F := F) c 1 1 ∗ owing (F := F) c 17)
      ⊢ iprop((agSent (F := F) c 2 1 ∗ agDone (F := F) c 0 1 ∗ agLeft (F := F) c 1 1 ∗ owing (F := F) c 18 ∗ agW A B c (agFrom c 0 1) (agN 1) (agFrom_le c 0 1) ∗ agW A B c (agTo c 0 1) (agN 1) (agTo_le c 0 1) ∗ agW A B c (agFrom c 1 1) (agN 1) (agFrom_le c 1 1) -∗ Q ⟨⟩)
        -∗ wp frame (wpE (defs₀ (F := F)) 𝒱₀ (c : Thread nD τ) none) Set.univ
          (k0_part22 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v5 v552 v577 v586) Q) := by
  rw [k0_part22_eq_skeleton]; unfold k0_part22_skel
  simp only [Prog.lift, Prog.bind_op, Prog.bind_ret, Prog.pure_eq_ret]
  iintro ⟨#HR, Hf2, Hr2, Hr0, Hr1, HO⟩ Hk
  iapply (wp_ag_send A B K Kb c _ 2 1 (dev18_eq c) _ _ (sem9_eq 2 1 _) (sem10_eq 2 1 _) _ (off24_eq c) 17 rfl) $$ [Hf2 Hr2 HO]
  · isplitr; · iexact HR
    isplitl [Hf2]; · iexact Hf2
    isplitl [Hr2]; · iexact Hr2
    iexact HO
  iintro ⟨Hr2, HO⟩
  iapply (wp_ag_left A B K Kb c 0 1 _ (sem9_eq 0 1 _) 18 (by decide)) $$ [Hr0 HO]
  · isplitr; · iexact HR
    isplitl [Hr0]; · iexact Hr0
    iexact HO
  iintro ⟨Hf0, Hr0, HO⟩
  iapply (wp_ag_done A B K Kb c 0 1 _ (sem10_eq 0 1 _) 18 (by decide)) $$ [Hr0 HO]
  · isplitr; · iexact HR
    isplitl [Hr0]; · iexact Hr0
    iexact HO
  iintro ⟨Ht0, Hr0, HO⟩
  iapply (wp_ag_left A B K Kb c 1 1 _ (sem9_eq 1 1 _) 18 (by decide)) $$ [Hr1 HO]
  · isplitr; · iexact HR
    isplitl [Hr1]; · iexact Hr1
    iexact HO
  iintro ⟨Hf1, Hr1, HO⟩
  rw [wp_ret]; imodintro
  iapply Hk
  isplitl [Hr2]; · iexact Hr2
  isplitl [Hr0]; · iexact Hr0
  isplitl [Hr1]; · iexact Hr1
  isplitl [HO]; · iexact HO
  isplitl [Hf0]; · iexact Hf0
  isplitl [Ht0]; · iexact Ht0
  iexact Hf1

/-- The second exchanges of groups 1 and 2 end; group 0's third transfer starts. -/
theorem part23_run (c : Dev nD) (v2 v7 v8 v564 v576 v595 : BitVec 32) {Q : _ → sProp 𝕄} :
    iprop(records A B K Kb ∗ agLeft (F := F) c 1 1 ∗ agSent (F := F) c 2 1 ∗ agW A B c (agFrom c 0 2) (agN 2) (agFrom_le c 0 2) ∗ agReady (F := F) c 0 2 ∗ owing (F := F) c 18)
      ⊢ iprop((∀ w1 w2, agDone (F := F) c 1 1 ∗ agDone (F := F) c 2 1 ∗ agSent (F := F) c 0 2 ∗ owing (F := F) c 19 ∗ agW A B c (agTo c 1 1) (agN 1) (agTo_le c 1 1) ∗ agW A B c (agFrom c 2 1) (agN 1) (agFrom_le c 2 1) ∗ agW A B c (agTo c 2 1) (agN 1) (agTo_le c 2 1) -∗ Q ⟨w1, w2⟩)
        -∗ wp frame (wpE (defs₀ (F := F)) 𝒱₀ (c : Thread nD τ) none) Set.univ
          (k0_part23 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v7 v8 v564 v576 v595) Q) := by
  rw [k0_part23_eq_skeleton]; unfold k0_part23_skel
  simp only [Prog.lift, Prog.bind_op, Prog.bind_ret, Prog.pure_eq_ret]
  iintro ⟨#HR, Hr1, Hr2, Hf0, Hr0, HO⟩ Hk
  iapply (wp_ag_done A B K Kb c 1 1 _ (sem10_eq 1 1 _) 18 (by decide)) $$ [Hr1 HO]
  · isplitr; · iexact HR
    isplitl [Hr1]; · iexact Hr1
    iexact HO
  iintro ⟨Ht1, Hr1, HO⟩
  iapply (wp_ag_left A B K Kb c 2 1 _ (sem9_eq 2 1 _) 18 (by decide)) $$ [Hr2 HO]
  · isplitr; · iexact HR
    isplitl [Hr2]; · iexact Hr2
    iexact HO
  iintro ⟨Hf2, Hr2, HO⟩
  iapply (wp_ag_done A B K Kb c 2 1 _ (sem10_eq 2 1 _) 18 (by decide)) $$ [Hr2 HO]
  · isplitr; · iexact HR
    isplitl [Hr2]; · iexact Hr2
    iexact HO
  iintro ⟨Ht2, Hr2, HO⟩
  iapply (wp_ag_send A B K Kb c _ 0 2 (dev19_eq c) _ _ (sem9_eq 0 2 _) (sem10_eq 0 2 _) _ (off25_eq c) 18 rfl) $$ [Hf0 Hr0 HO]
  · isplitr; · iexact HR
    isplitl [Hf0]; · iexact Hf0
    isplitl [Hr0]; · iexact Hr0
    iexact HO
  iintro ⟨Hr0, HO⟩
  rw [wp_ret]; imodintro
  iapply Hk
  isplitl [Hr1]; · iexact Hr1
  isplitl [Hr2]; · iexact Hr2
  isplitl [Hr0]; · iexact Hr0
  isplitl [HO]; · iexact HO
  isplitl [Ht1]; · iexact Ht1
  isplitl [Hf2]; · iexact Hf2
  iexact Ht2

/-- The third transfers of groups 1 and 2 start; group 0's exchange ends. -/
theorem part24_run (c : Dev nD) (v2 v640 v649 : BitVec 32) {Q : _ → sProp 𝕄} :
    iprop(records A B K Kb ∗ agW A B c (agFrom c 1 2) (agN 2) (agFrom_le c 1 2) ∗ agReady (F := F) c 1 2 ∗ agW A B c (agFrom c 2 2) (agN 2) (agFrom_le c 2 2) ∗ agReady (F := F) c 2 2 ∗ agSent (F := F) c 0 2 ∗ owing (F := F) c 19)
      ⊢ iprop((∀ w1, agSent (F := F) c 1 2 ∗ agSent (F := F) c 2 2 ∗ agDone (F := F) c 0 2 ∗ owing (F := F) c 21 ∗ agW A B c (agFrom c 0 2) (agN 2) (agFrom_le c 0 2) ∗ agW A B c (agTo c 0 2) (agN 2) (agTo_le c 0 2) -∗ Q w1)
        -∗ wp frame (wpE (defs₀ (F := F)) 𝒱₀ (c : Thread nD τ) none) Set.univ
          (k0_part24 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v2 v640 v649) Q) := by
  rw [k0_part24_eq_skeleton]; unfold k0_part24_skel
  simp only [Prog.lift, Prog.bind_op, Prog.bind_ret, Prog.pure_eq_ret]
  iintro ⟨#HR, Hf1, Hr1, Hf2, Hr2, Hr0, HO⟩ Hk
  iapply (wp_ag_send A B K Kb c _ 1 2 (dev20_eq c) _ _ (sem9_eq 1 2 _) (sem10_eq 1 2 _) _ (off26_eq c) 19 rfl) $$ [Hf1 Hr1 HO]
  · isplitr; · iexact HR
    isplitl [Hf1]; · iexact Hf1
    isplitl [Hr1]; · iexact Hr1
    iexact HO
  iintro ⟨Hr1, HO⟩
  iapply (wp_ag_send A B K Kb c _ 2 2 (dev21_eq c) _ _ (sem9_eq 2 2 _) (sem10_eq 2 2 _) _ (off27_eq c) 20 rfl) $$ [Hf2 Hr2 HO]
  · isplitr; · iexact HR
    isplitl [Hf2]; · iexact Hf2
    isplitl [Hr2]; · iexact Hr2
    iexact HO
  iintro ⟨Hr2, HO⟩
  iapply (wp_ag_left A B K Kb c 0 2 _ (sem9_eq 0 2 _) 21 (by decide)) $$ [Hr0 HO]
  · isplitr; · iexact HR
    isplitl [Hr0]; · iexact Hr0
    iexact HO
  iintro ⟨Hf0, Hr0, HO⟩
  iapply (wp_ag_done A B K Kb c 0 2 _ (sem10_eq 0 2 _) 21 (by decide)) $$ [Hr0 HO]
  · isplitr; · iexact HR
    isplitl [Hr0]; · iexact Hr0
    iexact HO
  iintro ⟨Ht0, Hr0, HO⟩
  rw [wp_ret]; imodintro
  iapply Hk
  isplitl [Hr1]; · iexact Hr1
  isplitl [Hr2]; · iexact Hr2
  isplitl [Hr0]; · iexact Hr0
  isplitl [HO]; · iexact HO
  isplitl [Hf0]; · iexact Hf0
  iexact Ht0

/-- The third exchanges of groups 1 and 2 end, and the gathered rows are loaded. -/
theorem part25_run (c : Dev nD) (v649 v658 : BitVec 32) {Q : _ → sProp 𝕄} :
    iprop(records A B K Kb ∗ agW A B c (agFrom c 0 2) (agN 2) (agFrom_le c 0 2) ∗ agW A B c (agTo c 0 2) (agN 2) (agTo_le c 0 2) ∗ agSent (F := F) c 1 2 ∗ agSent (F := F) c 2 2 ∗ owing (F := F) c 21)
      ⊢ iprop((agDone (F := F) c 1 2 ∗ agDone (F := F) c 2 2 ∗ owing (F := F) c 21 ∗ ag c 0 1536 (Nat.le_refl _) (whole A B) -∗ Q (k0_pay31 (whole A B)))
        -∗ wp frame (wpE (defs₀ (F := F)) 𝒱₀ (c : Thread nD τ) none) Set.univ
          (k0_part25 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 c v649 v658) Q) := by
  rw [k0_part25_eq_skeleton]; unfold k0_part25_skel
  simp only [Prog.lift, Prog.bind_op, Prog.bind_ret, Prog.pure_eq_ret]
  iintro ⟨#HR, Hf0, Ht0, Hr1, Hr2, HO⟩ Hk
  iapply (wp_ag_left A B K Kb c 1 2 _ (sem9_eq 1 2 _) 21 (by decide)) $$ [Hr1 HO]
  · isplitr; · iexact HR
    isplitl [Hr1]; · iexact Hr1
    iexact HO
  iintro ⟨Hf1, Hr1, HO⟩
  iapply (wp_ag_done A B K Kb c 1 2 _ (sem10_eq 1 2 _) 21 (by decide)) $$ [Hr1 HO]
  · isplitr; · iexact HR
    isplitl [Hr1]; · iexact Hr1
    iexact HO
  iintro ⟨Ht1, Hr1, HO⟩
  iapply (wp_ag_left A B K Kb c 2 2 _ (sem9_eq 2 2 _) 21 (by decide)) $$ [Hr2 HO]
  · isplitr; · iexact HR
    isplitl [Hr2]; · iexact Hr2
    iexact HO
  iintro ⟨Hf2, Hr2, HO⟩
  iapply (wp_ag_done A B K Kb c 2 2 _ (sem10_eq 2 2 _) 21 (by decide)) $$ [Hr2 HO]
  · isplitr; · iexact HR
    isplitl [Hr2]; · iexact Hr2
    iexact HO
  iintro ⟨Ht2, Hr2, HO⟩
  ihave Hf0 := (agW_merge2 A B c 0) $$ [Hf0 Ht0]
  · isplitl [Hf0]; · iexact Hf0
    iexact Ht0
  ihave Hf1 := (agW_merge2 A B c 1) $$ [Hf1 Ht1]
  · isplitl [Hf1]; · iexact Hf1
    iexact Ht1
  ihave Hf2 := (agW_merge2 A B c 2) $$ [Hf2 Ht2]
  · isplitl [Hf2]; · iexact Hf2
    iexact Ht2
  ihave Hw := (agW_all A B c) $$ [Hf0 Hf1 Hf2]
  · isplitl [Hf0]; · iexact Hf0
    isplitl [Hf1]; · iexact Hf1
    iexact Hf2
  iapply (wp_load_ag_whole c) $$ Hw; iintro Hw
  rw [wp_ret]; imodintro
  iapply Hk
  isplitl [Hr1]; · iexact Hr1
  isplitl [Hr2]; · iexact Hr2
  isplitl [HO]; · iexact HO
  iexact Hw

end Cert.KernelIdealProof
-- ==== Proof.KernelIdeal.Memory.lean ====
/-
  The memory a device starts and ends with: the slots of a buffer, the rows of a group, and what each
  phase of the kernel takes of them.
-/
module

public import proofs.«01_k».proof.Proof.KernelIdeal.Steps

@[expose] public section

set_option maxRecDepth 16384

noncomputable section

namespace Cert.KernelIdealProof

open Cert.KernelIdeal Cert.KernelIdeal.Gen Cert.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots -/

omit [FloatOps F] in
theorem mem_slot {n : ℕ} {t : Fin 3} {i : (S3 n).Idx} :
    i ∈ (Rect.unit (s := S3 n) ![t.val, 0, 0] (S1 n).size (inb_slot n t)).set ↔ (i 0).val = t.val := by
  rw [Rect.mem_set_unit]
  constructor
  · intro H
    have h0 : t.val ≤ (i 0).val ∧ (i 0).val < t.val + 1 := H 0
    omega
  · intro H a
    match a with
    | ⟨0, _⟩ => exact ⟨Nat.le_of_eq H.symm, Nat.lt_of_le_of_lt (Nat.le_of_eq H) (Nat.lt_succ_self _)⟩
    | ⟨1, _⟩ => exact ⟨Nat.zero_le _, Nat.lt_of_lt_of_eq (i 1).isLt (Nat.zero_add _).symm⟩
    | ⟨2, _⟩ => exact ⟨Nat.zero_le _, Nat.lt_of_lt_of_eq (i 2).isLt (Nat.zero_add _).symm⟩

theorem slot_disjoint (n : ℕ) (t t' : Fin 3) (h : t ≠ t') :
    Disjoint (Rect.unit (s := S3 n) ![t.val, 0, 0] (S1 n).size (inb_slot n t)).set (Rect.unit (s := S3 n) ![t'.val, 0, 0] (S1 n).size (inb_slot n t')).set := by
  rw [Finset.disjoint_left]
  intro i h1 h2
  exact h (Fin.ext ((mem_slot.mp h1).symm.trans (mem_slot.mp h2)))
theorem slot_cover (n : ℕ) :
    (Finset.univ : Finset (Fin 3)).biUnion (fun t => (Rect.unit (s := S3 n) ![t.val, 0, 0] (S1 n).size (inb_slot n t)).set) = Finset.univ := by
  ext i
  refine ⟨fun _ => Finset.mem_univ _, fun _ => Finset.mem_biUnion.mpr ⟨⟨(i 0).val, (i 0).isLt⟩, Finset.mem_univ _, mem_slot.mpr rfl⟩⟩

/-- A buffer, holding anything. -/
def bufAny {sp : Space} {sh : Shape} {e : EltTy} (c : Dev nD) (m : Memref sig .tc sp sh e) : sProp 𝕄 :=
  iprop(∃ X : sh.Idx → Elt F e, owns (c : Thread nD τ) m fullShare X)

omit [FloatOps F] in
theorem fin3 (Φ : Fin 3 → sProp (MT nD τ sig Unit (Elt F) ℕ UU ℕ)) : bigSep Finset.univ Φ = iprop(Φ 0 ∗ Φ 1 ∗ Φ 2) :=
  bigSep_univ_eq_bigSepL [0, 1, 2] (by decide) (by decide) Φ

omit [FloatOps F] in
/-- A three-slot buffer is its slots, -/
theorem slots_cut {n : ℕ} (c : Dev nD) (m : Memref sig .tc .vmem (S3 n) .bf16) :
    bufAny (F := F) c m ⊢ iprop(bufAny (F := F) c (slot m 0) ∗ bufAny (F := F) c (slot m 1) ∗ bufAny (F := F) c (slot m 2)) := by
  unfold bufAny
  iintro ⟨%X, H⟩
  ihave H := (owns_rects (c : Thread nD τ) m fullShare (fun t : Fin 3 => Rect.unit (s := S3 n) ![t.val, 0, 0] (S1 n).size (inb_slot n t))
    (fun _ _ => rfl) (slot_disjoint n) (slot_cover n) X) $$ H
  ihave H := (Entails.of_eq (fin3 _)) $$ H
  icases H with ⟨H0, H1, H2⟩
  isplitl [H0]; · iexists _; iexact H0
  isplitl [H1]; · iexists _; iexact H1
  iexists _; iexact H2

/-- An array of three slots. -/
def pile {α : Type} {n : ℕ} (X : Fin 3 → (S1 n).Idx → α) : (S3 n).Idx → α := fun i => X (i 0) (ix3 0 (i 1) (i 2))

omit [FloatOps F] in
theorem pile_slot {α : Type} {n : ℕ} (X : Fin 3 → (S1 n).Idx → α) (t : Fin 3) :
    (fun j => pile X ((Rect.unit (s := S3 n) ![t.val, 0, 0] (S1 n).size (inb_slot n t)).emb j)) = X t := by
  funext j
  have h0 : (j 0).val = 0 := by have : (j 0).val < 1 := (j 0).isLt; omega
  unfold pile
  have e0 : ((Rect.unit (s := S3 n) ![t.val, 0, 0] (S1 n).size (inb_slot n t)).emb j) 0 = t := Fin.ext (by
    rw [Rect.emb_apply]; show t.val + 1 * (j 0).val = t.val; omega)
  have ej : ix3 (0 : Fin 1) (((Rect.unit (s := S3 n) ![t.val, 0, 0] (S1 n).size (inb_slot n t)).emb j) 1)
      (((Rect.unit (s := S3 n) ![t.val, 0, 0] (S1 n).size (inb_slot n t)).emb j) 2) = j := by
    funext a
    apply Fin.ext
    match a with
    | ⟨0, _⟩ => exact h0.symm
    | ⟨1, _⟩ => show 0 + 1 * (j 1).val = (j 1).val; omega
    | ⟨2, _⟩ => show 0 + 1 * (j 2).val = (j 2).val; omega
  exact (congrArg (fun t' => X t' _) e0).trans (congrArg (X t) ej)

instance elt_nonempty (e : EltTy) : Nonempty (Elt F e) := by
  cases e <;> first | exact ⟨(0 : BitVec _)⟩ | exact ⟨(Scalar.ofBits _ 0)⟩

/-- and its slots are the buffer. -/
theorem slots_join {n : ℕ} (c : Dev nD) (m : Memref sig .tc .vmem (S3 n) .bf16) :
    iprop(bufAny (F := F) c (slot m 0) ∗ bufAny (F := F) c (slot m 1) ∗ bufAny (F := F) c (slot m 2)) ⊢ bufAny (F := F) c m := by
  unfold bufAny
  iintro ⟨⟨%X0, H0⟩, ⟨%X1, H1⟩, ⟨%X2, H2⟩⟩
  iexists (pile fun t => match t with | 0 => X0 | 1 => X1 | 2 => X2)
  iapply (owns_of_rects (c : Thread nD τ) m fullShare (fun t : Fin 3 => Rect.unit (s := S3 n) ![t.val, 0, 0] (S1 n).size (inb_slot n t))
    (fun _ _ => rfl) (slot_disjoint n) (slot_cover n) _)
  rw [fin3]
  simp only [pile_slot]
  isplitl [H0]; · iexact H0
  isplitl [H1]; · iexact H1
  iexact H2

/-! ## Nine at a time -/

/-- The nine transfers of a phase, in the order in which they start. -/
def each (P : Fin 3 → Fin 3 → sProp 𝕄) : sProp 𝕄 :=
  iprop(P 0 0 ∗ P 1 0 ∗ P 2 0 ∗ P 0 1 ∗ P 1 1 ∗ P 2 1 ∗ P 0 2 ∗ P 1 2 ∗ P 2 2)

omit [FloatOps F] in
theorem each_eq (P : Fin 3 → Fin 3 → sProp 𝕄) : each P = bigSep Finset.univ fun x : Fin 3 × Fin 3 => P x.1 x.2 :=
  (bigSep_univ_eq_bigSepL [(0, 0), (1, 0), (2, 0), (0, 1), (1, 1), (2, 1), (0, 2), (1, 2), (2, 2)] (by decide) (by decide)
    fun x : Fin 3 × Fin 3 => P x.1 x.2).symm

omit [FloatOps F] in
theorem each_mono {P P' : Fin 3 → Fin 3 → sProp 𝕄} (h : ∀ t s, P t s ⊢ P' t s) : each P ⊢ each P' := by
  rw [each_eq, each_eq]; exact bigSep_mono fun x _ => h x.1 x.2

omit [FloatOps F] in
theorem each_sep (P P' : Fin 3 → Fin 3 → sProp 𝕄) : each (fun t s => iprop(P t s ∗ P' t s)) = iprop(each P ∗ each P') := by
  rw [each_eq, each_eq, each_eq, bigSep_sep']

omit [FloatOps F] in
/-- Three buffers are nine slots, -/
theorem bufs_cut (c : Dev nD) (m : (s : Fin 3) → Memref sig .tc .vmem (S3 (rsN s)) .bf16) :
    iprop(bufAny (F := F) c (m 0) ∗ bufAny (F := F) c (m 1) ∗ bufAny (F := F) c (m 2)) ⊢ each fun t s => bufAny (F := F) c (slot (m s) t) := by
  iintro ⟨H0, H1, H2⟩
  ihave H0 := (slots_cut (F := F) c (m 0)) $$ H0
  ihave H1 := (slots_cut (F := F) c (m 1)) $$ H1
  ihave H2 := (slots_cut (F := F) c (m 2)) $$ H2
  icases H0 with ⟨H00, H10, H20⟩
  icases H1 with ⟨H01, H11, H21⟩
  unfold each
  isplitl [H00]; · iexact H00
  isplitl [H10]; · iexact H10
  isplitl [H20]; · iexact H20
  isplitl [H01]; · iexact H01
  isplitl [H11]; · iexact H11
  isplitl [H21]; · iexact H21
  iexact H2

/-- and nine slots are three buffers. -/
theorem bufs_join (c : Dev nD) (m : (s : Fin 3) → Memref sig .tc .vmem (S3 (rsN s)) .bf16) :
    (each fun t s => bufAny (F := F) c (slot (m s) t)) ⊢ iprop(bufAny (F := F) c (m 0) ∗ bufAny (F := F) c (m 1) ∗ bufAny (F := F) c (m 2)) := by
  unfold each
  iintro ⟨H00, H10, H20, H01, H11, H21, H2⟩
  isplitl [H00 H10 H20]
  · iapply (slots_join (F := F) c (m 0))
    isplitl [H00]; · iexact H00
    isplitl [H10]; · iexact H10
    iexact H20
  isplitl [H01 H11 H21]
  · iapply (slots_join (F := F) c (m 1))
    isplitl [H01]; · iexact H01
    isplitl [H11]; · iexact H11
    iexact H21
  iapply (slots_join (F := F) c (m 2))
  iexact H2

/-! ## Rows -/

section Bands

variable (c : Dev nD) {e : EltTy} (m : Memref sig .tc .vmem (R 1536) e)

omit [FloatOps F] in
/-- Half of a band and the other half, holding anything. -/
theorem any_halve (r n N b : ℕ) (hN : N = n + n) (hb : b ≤ 1) (h : r + N ≤ 1536) :
    (rowsAny (Val := Elt F) (c : Thread nD τ) m r N h : sProp 𝕄)
      ⊢ iprop(rowsAny (Val := Elt F) (c : Thread nD τ) m (r + n * b) n (by have := Nat.mul_le_mul_left n hb; omega)
          ∗ rowsAny (Val := Elt F) (c : Thread nD τ) m (r + n * (1 - b)) n (by have := Nat.mul_le_mul_left n (Nat.sub_le 1 b); omega)) := by
  iintro H
  ihave H := (show (rowsAny (Val := Elt F) (c : Thread nD τ) m r N h : sProp 𝕄) ⊢ iprop(∃ X, rows (c : Thread nD τ) m r N h X) from .rfl) $$ H
  icases H with ⟨%X, H⟩
  ihave H := (rows_halve (c : Thread nD τ) m r n N b hN hb h X) $$ H
  icases H with ⟨H1, H2⟩
  isplitl [H1]
  · iapply (rows_any (c : Thread nD τ) m _ _ _ _); iexact H1
  · iapply (rows_any (c : Thread nD τ) m _ _ _ _); iexact H2

omit [FloatOps F] in
theorem any_cut (r a b : ℕ) (h : r + (a + b) ≤ 1536) :
    (rowsAny (Val := Elt F) (c : Thread nD τ) m r (a + b) h : sProp 𝕄)
      ⊢ iprop(rowsAny (Val := Elt F) (c : Thread nD τ) m r a (by omega) ∗ rowsAny (Val := Elt F) (c : Thread nD τ) m (r + a) b (by omega)) := by
  iintro H
  ihave H := (show (rowsAny (Val := Elt F) (c : Thread nD τ) m r (a + b) h : sProp 𝕄) ⊢ iprop(∃ X, rows (c : Thread nD τ) m r (a + b) h X) from .rfl) $$ H
  icases H with ⟨%X, H⟩
  ihave H := (rows_cut (c : Thread nD τ) m r a b h X) $$ H
  icases H with ⟨H1, H2⟩
  isplitl [H1]
  · iapply (rows_any (c : Thread nD τ) m _ _ _ _); iexact H1
  · iapply (rows_any (c : Thread nD τ) m _ _ _ _); iexact H2

/-- The rows of group `t`, and those of it kept and given away at stage `s`, holding anything. -/
def grpAny (t : Fin 3) : sProp 𝕄 := rowsAny (Val := Elt F) (c : Thread nD τ) m (512 * t.val) 512 (le512 t)
def keepAny (t s : Fin 3) : sProp 𝕄 := rowsAny (Val := Elt F) (c : Thread nD τ) m (keep c t s) (rsN s) (keep_le c t s)
def giveAny (t s : Fin 3) : sProp 𝕄 := rowsAny (Val := Elt F) (c : Thread nD τ) m (give c t s) (rsN s) (give_le c t s)

omit [FloatOps F] in
/-- A buffer is three groups, -/
theorem groups_cut : bufAny (F := F) c m ⊢ iprop(grpAny (F := F) c m 0 ∗ grpAny (F := F) c m 1 ∗ grpAny (F := F) c m 2) := by
  unfold bufAny
  iintro ⟨%X, H⟩
  ihave H := (Entails.of_eq (rows_whole (c : Thread nD τ) m X).symm) $$ H
  ihave H := (rows_any (c : Thread nD τ) m 0 1536 (Nat.le_refl 1536) X) $$ H
  ihave H := (show (rowsAny (Val := Elt F) (c : Thread nD τ) m 0 1536 (Nat.le_refl 1536) : sProp 𝕄)
    ⊢ iprop(grpAny (F := F) c m 0 ∗ rowsAny (Val := Elt F) (c : Thread nD τ) m 512 1024 (Nat.le_refl 1536)) from any_cut (F := F) c m 0 512 1024 (Nat.le_refl 1536)) $$ H
  icases H with ⟨H0, H⟩
  ihave H := (show (rowsAny (Val := Elt F) (c : Thread nD τ) m 512 1024 (Nat.le_refl 1536) : sProp 𝕄)
    ⊢ iprop(grpAny (F := F) c m 1 ∗ grpAny (F := F) c m 2) from any_cut (F := F) c m 512 512 512 (Nat.le_refl 1536)) $$ H
  isplitl [H0]; · iexact H0
  iexact H

omit [FloatOps F] in
/-- three groups are the buffer's rows, -/
theorem groups_join : iprop(grpAny (F := F) c m 0 ∗ grpAny (F := F) c m 1 ∗ grpAny (F := F) c m 2)
    ⊢ rowsAny (Val := Elt F) (c : Thread nD τ) m 0 1536 (Nat.le_refl 1536) := by
  iintro ⟨H0, H1, H2⟩
  iapply (show iprop(grpAny (F := F) c m 0 ∗ rowsAny (Val := Elt F) (c : Thread nD τ) m (0 + 512) 1024 (Nat.le_refl 1536))
    ⊢ (rowsAny (Val := Elt F) (c : Thread nD τ) m 0 1536 (Nat.le_refl 1536) : sProp 𝕄) from rowsAny_join (c : Thread nD τ) m 0 512 1024 (Nat.le_refl 1536))
  isplitl [H0]; · iexact H0
  iapply (show iprop(grpAny (F := F) c m 1 ∗ grpAny (F := F) c m 2)
    ⊢ (rowsAny (Val := Elt F) (c : Thread nD τ) m (0 + 512) 1024 (Nat.le_refl 1536) : sProp 𝕄) from rowsAny_join (c : Thread nD τ) m 512 512 512 (Nat.le_refl 1536))
  isplitl [H1]; · iexact H1
  iexact H2

omit [FloatOps F] in
/-- a group is what is kept and what is given away of it at the first stage, -/
theorem grp_cut (t : Fin 3) : grpAny (F := F) c m t ⊢ iprop(keepAny (F := F) c m t 0 ∗ giveAny (F := F) c m t 0) :=
  any_halve c m (512 * t.val) 256 512 (kb c t) rfl (kb_le c t) (le512 t)
omit [FloatOps F] in
/-- and so on at the second and the third. -/
theorem keep_cut0 (t : Fin 3) : keepAny (F := F) c m t 0 ⊢ iprop(keepAny (F := F) c m t 1 ∗ giveAny (F := F) c m t 1) :=
  any_halve c m (keep c t 0) 128 256 (kb c (t + 1)) rfl (kb_le c _) (keep_le c t 0)
omit [FloatOps F] in
theorem keep_cut1 (t : Fin 3) : keepAny (F := F) c m t 1 ⊢ iprop(keepAny (F := F) c m t 2 ∗ giveAny (F := F) c m t 2) :=
  any_halve c m (keep c t 1) 64 128 (kb c (t + 2)) rfl (kb_le c _) (keep_le c t 1)

omit [FloatOps F] in
/-- A group is what is left of it and all that was given away. -/
theorem grp_join (t : Fin 3) :
    iprop(keepAny (F := F) c m t 2 ∗ giveAny (F := F) c m t 2 ∗ giveAny (F := F) c m t 1 ∗ giveAny (F := F) c m t 0) ⊢ grpAny (F := F) c m t := by
  iintro ⟨H2, G2, G1, G0⟩
  iapply (show iprop(keepAny (F := F) c m t 0 ∗ giveAny (F := F) c m t 0) ⊢ grpAny (F := F) c m t from
    rowsAny_unhalve (c : Thread nD τ) m (512 * t.val) 256 512 (kb c t) rfl (kb_le c t) (le512 t))
  isplitr [G0]
  · iapply (show iprop(keepAny (F := F) c m t 1 ∗ giveAny (F := F) c m t 1) ⊢ keepAny (F := F) c m t 0 from
      rowsAny_unhalve (c : Thread nD τ) m (keep c t 0) 128 256 (kb c (t + 1)) rfl (kb_le c _) (keep_le c t 0))
    isplitr [G1]
    · iapply (show iprop(keepAny (F := F) c m t 2 ∗ giveAny (F := F) c m t 2) ⊢ keepAny (F := F) c m t 1 from
        rowsAny_unhalve (c : Thread nD τ) m (keep c t 1) 64 128 (kb c (t + 2)) rfl (kb_le c _) (keep_le c t 1))
      isplitl [H2]; · iexact H2
      iexact G2
    · iexact G1
  · iexact G0

end Bands

/-! ## The phases' memory -/

omit [FloatOps F] in
/-- A group of the gathering's buffer: the rows the device ends the reduction with, and those its peers will write. -/
theorem ag_cut (c : Dev nD) (t : Fin 3) : grpAny (F := F) c agM t
    ⊢ iprop(agAny (F := F) c (keep c t 2) 64 (keep_le c t 2) ∗ agAny (F := F) c (agTo c t 0) (agN 0) (agTo_le c t 0)
        ∗ agAny (F := F) c (agTo c t 1) (agN 1) (agTo_le c t 1) ∗ agAny (F := F) c (agTo c t 2) (agN 2) (agTo_le c t 2)) := by
  iintro H
  ihave H := (show grpAny (F := F) c agM t ⊢ iprop(keepAny (F := F) c agM t 0 ∗ agAny (F := F) c (agTo c t 2) (agN 2) (agTo_le c t 2)) from grp_cut c agM t) $$ H
  icases H with ⟨H, G0⟩
  ihave H := (show keepAny (F := F) c agM t 0 ⊢ iprop(keepAny (F := F) c agM t 1 ∗ agAny (F := F) c (agTo c t 1) (agN 1) (agTo_le c t 1)) from keep_cut0 c agM t) $$ H
  icases H with ⟨H, G1⟩
  ihave H := (show keepAny (F := F) c agM t 1 ⊢ iprop(agAny (F := F) c (keep c t 2) 64 (keep_le c t 2) ∗ agAny (F := F) c (agTo c t 0) (agN 0) (agTo_le c t 0)) from keep_cut1 c agM t) $$ H
  icases H with ⟨H, G2⟩
  isplitl [H]; · iexact H
  isplitl [G2]; · iexact G2
  isplitl [G1]; · iexact G1
  iexact G0

omit [FloatOps F] in
/-- The landing slots and the gathering's buffer are the three shares a device gives at the barrier, and the rows it keeps. -/
theorem shares (c : Dev nD) :
    iprop((each fun t s => rbAny (F := F) c t s) ∗ bufAny (F := F) c agM)
      ⊢ iprop((barPay (F := F) c 0 ∗ barPay (F := F) c 1 ∗ barPay (F := F) c 2)
          ∗ agAny (F := F) c (keep c 0 2) 64 (keep_le c 0 2) ∗ agAny (F := F) c (keep c 1 2) 64 (keep_le c 1 2) ∗ agAny (F := F) c (keep c 2 2) 64 (keep_le c 2 2)) := by
  unfold each barPay
  iintro ⟨⟨B00, B10, B20, B01, B11, B21, B02, B12, B22⟩, H⟩
  ihave H := (groups_cut (F := F) c agM) $$ H
  icases H with ⟨H0, H1, H2⟩
  ihave H0 := (ag_cut (F := F) c 0) $$ H0
  ihave H1 := (ag_cut (F := F) c 1) $$ H1
  ihave H2 := (ag_cut (F := F) c 2) $$ H2
  icases H0 with ⟨W0, A00, A01, A02⟩
  icases H1 with ⟨W1, A10, A11, A12⟩
  icases H2 with ⟨W2, A20, A21, A22⟩
  isplitr [W0 W1 W2]
  · isplitl [B00 B21 B12 A10 A21 A02]
    · isplitl [B00]; · iexact B00
      isplitl [B21]; · iexact B21
      isplitl [B12]; · iexact B12
      isplitl [A10]; · iexact A10
      isplitl [A21]; · iexact A21
      iexact A02
    isplitl [B10 B01 B22 A20 A01 A12]
    · isplitl [B10]; · iexact B10
      isplitl [B01]; · iexact B01
      isplitl [B22]; · iexact B22
      isplitl [A20]; · iexact A20
      isplitl [A01]; · iexact A01
      iexact A12
    isplitl [B20]; · iexact B20
    isplitl [B11]; · iexact B11
    isplitl [B02]; · iexact B02
    isplitl [A00]; · iexact A00
    isplitl [A11]; · iexact A11
    iexact A22
  · isplitl [W0]; · iexact W0
    isplitl [W1]; · iexact W1
    iexact W2

/-- What a transfer of the reduction starts from beside the peer's slot, and one of the gathering beside the peer's rows. -/
def rsCells (c : Dev nD) (t s : Fin 3) : sProp 𝕄 :=
  iprop(dutyTok ER (cell c 0 t s) 0 0 ∗ dutyTok ER (cell (peer c (rsAx t s)) 1 t s) 0 0
    ∗ atPos ER (cell c 0 t s) 0 ∅ 0 ∗ atPos ER (cell c 1 t s) 0 ∅ 0 ∗ cred (tallyAt (cell c 1 t s) () (cr (rsN s))))
def agCells (c : Dev nD) (t s : Fin 3) : sProp 𝕄 :=
  iprop(dutyTok ER (cell c 2 t s) 0 0 ∗ dutyTok ER (cell (peer c (agAx t s)) 3 t s) 0 0
    ∗ atPos ER (cell c 2 t s) 0 ∅ 0 ∗ atPos ER (cell c 3 t s) 0 ∅ 0 ∗ cred (tallyAt (cell c 3 t s) () (cr (agN s))))

omit [FloatOps F] in
/-- The rows a peer receives in the gathering are those its sender sends. -/
theorem ag_peer (c : Dev nD) (t s : Fin 3) : agAny (F := F) (peer c (agAx t s)) (agTo (peer c (agAx t s)) t s) (agN s) (agTo_le _ t s)
    ⊢ agAny (F := F) (peer c (agAx t s)) (agFrom c t s) (agN s) (agFrom_le c t s) := by
  unfold agAny
  rw [rowsAny_congr (Val := Elt F) (peer c (agAx t s) : Thread nD τ) agM (agTo_peer c t s) (agTo_le _ t s) (agFrom_le c t s)]

omit [FloatOps F] in
/-- What the peers gave at the barrier is what the transfers need: every one of them is ready. -/
theorem ready (c : Dev nD) :
    iprop((barPay (F := F) (peer c 0) 0 ∗ barPay (F := F) (peer c 1) 1 ∗ barPay (F := F) (peer c 2) 2) ∗ each (rsCells (F := F) c) ∗ each (agCells (F := F) c))
      ⊢ iprop(each (rsReady (F := F) c) ∗ each (agReady (F := F) c)) := by
  have h1 : each (rsReady (F := F) c) = iprop((each fun t s => rbAny (F := F) (peer c (rsAx t s)) t s) ∗ each (rsCells (F := F) c)) := each_sep _ _
  have h2 : each (agReady (F := F) c) = iprop((each fun t s => agAny (F := F) (peer c (agAx t s)) (agFrom c t s) (agN s) (agFrom_le c t s)) ∗ each (agCells (F := F) c)) := each_sep _ _
  rw [h1, h2]
  iintro ⟨⟨P0, P1, P2⟩, HR, HG⟩
  unfold barPay
  icases P0 with ⟨B00, B21, B12, A10, A21, A02⟩
  icases P1 with ⟨B10, B01, B22, A20, A01, A12⟩
  icases P2 with ⟨B20, B11, B02, A00, A11, A22⟩
  isplitl [B00 B10 B20 B01 B11 B21 B02 B12 B22 HR]
  · isplitr [HR]
    · unfold each
      isplitl [B00]; · iexact B00
      isplitl [B10]; · iexact B10
      isplitl [B20]; · iexact B20
      isplitl [B01]; · iexact B01
      isplitl [B11]; · iexact B11
      isplitl [B21]; · iexact B21
      isplitl [B02]; · iexact B02
      isplitl [B12]; · iexact B12
      iexact B22
    · iexact HR
  · isplitr [HG]
    · iapply (each_mono (F := F) (ag_peer c))
      unfold each
      isplitl [A00]; · iexact A00
      isplitl [A10]; · iexact A10
      isplitl [A20]; · iexact A20
      isplitl [A01]; · iexact A01
      isplitl [A11]; · iexact A11
      isplitl [A21]; · iexact A21
      isplitl [A02]; · iexact A02
      isplitl [A12]; · iexact A12
      iexact A22
    · iexact HG

end Cert.KernelIdealProof
-- ==== Proof.KernelIdeal.Body.lean ====
/-
  The kernel's body: its first part, with the barrier, and all parts in sequence.
-/
module

public import proofs.«01_k».proof.Proof.KernelIdeal.Parts3
public import proofs.«01_k».proof.Proof.KernelIdeal.Memory

@[expose] public section

set_option maxRecDepth 16384

noncomputable section

namespace Cert.KernelIdealProof

open Cert.KernelIdeal Cert.KernelIdeal.Gen Cert.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S1536x768 .f32) (B : Dev nD → Vec F S768x1536 .f32)
variable (K : Dev nD × Cx → ℕ) (Kb : Dev nD → ℕ)

omit [FloatOps F] in
theorem rb_any (c : Dev nD) (t s : Fin 3) (X : (S1 (rsN s)).Idx → Elt F .bf16) : rb c t s X ⊢ rbAny (F := F) c t s := by
  unfold rbAny; iintro H; iexists X; iexact H

omit [FloatOps F] in
/-- The gathering's buffer, whole. -/
theorem ag_buf (c : Dev nD) (X : (R 1536).Idx → Elt F .bf16) : ag c 0 1536 (Nat.le_refl _) X ⊢ bufAny (F := F) c agM := by
  unfold bufAny
  iintro H
  iexists X
  iapply (show ag c 0 1536 (Nat.le_refl _) X ⊢ owns (c : Thread nD τ) agM fullShare X from Entails.of_eq (rows_whole (c : Thread nD τ) agM X))
  iexact H

omit [FloatOps F] in
/-- A group of the result's buffer: the rows kept at the first stage and the others, -/
theorem out_cut (c : Dev nD) (t : Fin 3) : grpAny (F := F) c oM t
    ⊢ iprop(ouAny (F := F) c (keep c t 0) 256 (keep_le c t 0) ∗ ouAny (F := F) c (give c t 0) 256 (give_le c t 0)) := grp_cut c oM t
omit [FloatOps F] in
/-- and the group again from what it has been cut into. -/
theorem out_join (c : Dev nD) (t : Fin 3) :
    iprop((∃ X, ou (F := F) c (keep c t 2) 64 (keep_le c t 2) X) ∗ (∃ X, ou (F := F) c (give c t 2) 64 (give_le c t 2) X)
        ∗ (∃ X, ou (F := F) c (give c t 1) 128 (give_le c t 1) X) ∗ ouAny (F := F) c (give c t 0) 256 (give_le c t 0))
      ⊢ grpAny (F := F) c oM t := grp_join c oM t

/-- The operands' first loads after the barrier, through which the device has its peers' memory. -/
theorem part1_run (c : Dev nD) {Q : _ → sProp 𝕄} :
    iprop(records A B K Kb ∗ aIn A c ∗ bIn B c ∗ owing (F := F) c 0
        ∗ (barPay (F := F) c 0 ∗ barPay (F := F) c 1 ∗ barPay (F := F) c 2)
        ∗ (dutyTok ER (barCell (peer c 0)) 0 0 ∗ dutyTok ER (barCell (peer c 1)) 0 1 ∗ dutyTok ER (barCell (peer c 2)) 0 2)
        ∗ atPos ER (barCell c) 0 ∅ 0 ∗ cred (tallyAt (barCell c) () 3))
      ⊢ iprop((∀ w1 w2 w3 w4, aIn A c ∗ bIn B c ∗ owing (F := F) c 3
            ∗ (barPay (F := F) (peer c 0) 0 ∗ barPay (F := F) (peer c 1) 1 ∗ barPay (F := F) (peer c 2) 2) ∗ atPos ER (barCell c) 1 ∅ 0
            -∗ Q ⟨c, w1, w2, w3, w4, k0_pay1 (ablk A c (give c 0 0) (give_le c 0 0)), k0_pay2 (B c), constant S256x1536 .f32 0x00000000#32⟩)
        -∗ wp frame (wpE (defs₀ (F := F)) 𝒱₀ (c : Thread nD τ) none) Set.univ
          (k0_part1 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Q) := by
  rw [k0_part1_eq_skeleton]; unfold k0_part1_skel
  simp only [semSignalWord, semWaitWord, Prog.lift, Prog.bind_op, Prog.bind_ret, Prog.pure_eq_ret, wp_deviceId]
  iintro ⟨#HR, HA, HB, HO, ⟨P0, P1, P2⟩, ⟨T0, T1, T2⟩, Hat, Hc⟩ Hk
  iapply (wp_bar_signal A B K Kb c _ 0 (dev1_eq c) 0 rfl) $$ [HO T0 P0]
  · isplitr; · iexact HR
    isplitl [HO]; · iexact HO
    isplitl [T0]; · iexact T0
    iexact P0
  iintro HO
  iapply (wp_bar_signal A B K Kb c _ 1 (dev2_eq c) 1 rfl) $$ [HO T1 P1]
  · isplitr; · iexact HR
    isplitl [HO]; · iexact HO
    isplitl [T1]; · iexact T1
    iexact P1
  iintro HO
  iapply (wp_bar_signal A B K Kb c _ 2 (dev3_eq c) 2 rfl) $$ [HO T2 P2]
  · isplitr; · iexact HR
    isplitl [HO]; · iexact HO
    isplitl [T2]; · iexact T2
    iexact P2
  iintro HO
  iapply (wp_bar_wait A B K Kb c) $$ [HO Hat Hc]
  · isplitr; · iexact HR
    isplitl [Hc]; · iexact Hc
    isplitl [HO]; · iexact HO
    iexact Hat
  iintro ⟨HP, HO, Hat⟩
  iapply (wp_load_a A c (off1_eq c) (give_le c 0 0)) $$ HA; iintro HA
  iapply (wp_load_b B c) $$ HB; iintro HB
  rw [wp_ret]; imodintro
  iapply Hk
  isplitl [HA]; · iexact HA
  isplitl [HB]; · iexact HB
  isplitl [HO]; · iexact HO
  isplitl [HP]; · iexact HP
  iexact Hat

/-- What a device runs the body with: its operands, its buffers at any contents, its debt, its tokens and its positions. -/
def bodyIn (c : Dev nD) : sProp 𝕄 :=
  iprop(aIn A c ∗ bIn B c ∗ bufAny (F := F) c oM
    ∗ ((bufAny (F := F) c (sbM 0) ∗ bufAny (F := F) c (sbM 1) ∗ bufAny (F := F) c (sbM 2))
        ∗ (bufAny (F := F) c (rbM 0) ∗ bufAny (F := F) c (rbM 1) ∗ bufAny (F := F) c (rbM 2)) ∗ bufAny (F := F) c agM)
    ∗ owing (F := F) c 0
    ∗ (dutyTok ER (barCell (peer c 0)) 0 0 ∗ dutyTok ER (barCell (peer c 1)) 0 1 ∗ dutyTok ER (barCell (peer c 2)) 0 2)
    ∗ atPos ER (barCell c) 0 ∅ 0 ∗ cred (tallyAt (barCell c) () 3)
    ∗ each (rsCells (F := F) c) ∗ each (agCells (F := F) c))

/-- What it ends with: its operands, the result widened, its buffers, no debt, and its cells a round on. -/
def bodyOut (c : Dev nD) : sProp 𝕄 :=
  iprop(aIn A c ∗ bIn B c ∗ ou c 0 1536 (Nat.le_refl _) (k0_pay31 (whole A B))
    ∗ ((bufAny (F := F) c (sbM 0) ∗ bufAny (F := F) c (sbM 1) ∗ bufAny (F := F) c (sbM 2))
        ∗ (bufAny (F := F) c (rbM 0) ∗ bufAny (F := F) c (rbM 1) ∗ bufAny (F := F) c (rbM 2)) ∗ bufAny (F := F) c agM)
    ∗ owing (F := F) c 21
    ∗ atPos ER (barCell c) 1 ∅ 0 ∗ each (rsDone (F := F) c) ∗ each (agDone (F := F) c))

/-- The body runs from the one to the other. -/
theorem body_run (c : Dev nD) {Q : PUnit → sProp 𝕄} :
    iprop(records A B K Kb ∗ bodyIn A B c)
      ⊢ iprop((bodyOut A B c -∗ Q ⟨⟩)
        -∗ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Q) := by
  rw [cc0_body_eq_skeleton]; unfold cc0_body_skel
  simp only [Prog.lift, Prog.bind_op, Prog.bind_ret, Prog.pure_eq_ret, wp_bind]
  unfold bodyIn
  iintro ⟨#HR, HA, HB, Hout, ⟨Hsb, Hrb, Hag⟩, HO, Htk, Hat, Hc, HRs, HAg⟩ Hk
  ihave Hrb := (show iprop(bufAny (F := F) c (rbM 0) ∗ bufAny (F := F) c (rbM 1) ∗ bufAny (F := F) c (rbM 2)) ⊢ each fun t s => rbAny (F := F) c t s from bufs_cut c rbM) $$ Hrb
  ihave Hsb := (show iprop(bufAny (F := F) c (sbM 0) ∗ bufAny (F := F) c (sbM 1) ∗ bufAny (F := F) c (sbM 2)) ⊢ each fun t s => sbAny (F := F) c t s from bufs_cut c sbM) $$ Hsb
  ihave Hp := (shares (F := F) c) $$ [Hrb Hag]
  · isplitl [Hrb] <;> iassumption
  icases Hp with ⟨HP, W0, W1, W2⟩
  iapply (part1_run A B K Kb c) $$ [HA HB HO HP Htk Hat Hc]
  · isplitr; · iexact HR
    isplitl [HA]; · iexact HA
    isplitl [HB]; · iexact HB
    isplitl [HO]; · iexact HO
    isplitl [HP]; · iexact HP
    isplitl [Htk]; · iexact Htk
    isplitl [Hat]; · iexact Hat
    iexact Hc
  iintro %p1 %p2 %p3 %p4 ⟨HA, HB, HO, HP, Hat⟩
  ihave Hr := (ready (F := F) c) $$ [HP HRs HAg]
  · isplitl [HP]; · iexact HP
    isplitl [HRs]; · iexact HRs
    iexact HAg
  icases Hr with ⟨HRs, HAg⟩
  ihave Hout := (groups_cut (F := F) c oM) $$ Hout
  icases Hout with ⟨O0, O1, O2⟩
  ihave O0 := (out_cut (F := F) c 0) $$ O0
  icases O0 with ⟨O0, E0⟩
  ihave O1 := (out_cut (F := F) c 1) $$ O1
  icases O1 with ⟨O1, E1⟩
  ihave O2 := (out_cut (F := F) c 2) $$ O2
  icases O2 with ⟨O2, E2⟩
  unfold each
  icases HRs with ⟨R00, R10, R20, R01, R11, R21, R02, R12, R22⟩
  icases Hsb with ⟨S00, S10, S20, S01, S11, S21, S02, S12, S22⟩
  iapply (part2_run A B K Kb c _ _ _) $$ [HA HB S00 S10 R00 HO]
  · isplitr; · iexact HR
    isplitl [HA]; · iexact HA
    isplitl [HB]; · iexact HB
    isplitl [S00]; · iexact S00
    isplitl [S10]; · iexact S10
    isplitl [R00]; · iexact R00
    iexact HO
  iintro %q2_0 %q2_1 ⟨HA, HB, S10, R00, HO⟩
  iapply (part3_run A B K Kb c _ _ _) $$ [HA HB S10 S20 R10 HO]
  · isplitr; · iexact HR
    isplitl [HA]; · iexact HA
    isplitl [HB]; · iexact HB
    isplitl [S10]; · iexact S10
    isplitl [S20]; · iexact S20
    isplitl [R10]; · iexact R10
    iexact HO
  iintro %q3_0 %q3_1 %q3_2 ⟨HA, HB, S20, R10, HO⟩
  iapply (part4_run A B K Kb c _ _ _ _) $$ [HA HB S20 R20 HO O0 O1]
  · isplitr; · iexact HR
    isplitl [HA]; · iexact HA
    isplitl [HB]; · iexact HB
    isplitl [S20]; · iexact S20
    isplitl [R20]; · iexact R20
    isplitl [HO]; · iexact HO
    isplitl [O0]; · iexact O0
    iexact O1
  iintro %q4_0 ⟨HA, HB, R20, HO, O0, O1⟩
  iapply (part5_run A B K Kb c _ _ _ _) $$ [O2 O0 R00 HO]
  · isplitr; · iexact HR
    isplitl [O2]; · iexact O2
    isplitl [O0]; · iexact O0
    isplitl [R00]; · iexact R00
    iexact HO
  iintro %q5_0 %q5_1 ⟨O2, O0, R00, HO, S00, B00⟩
  iapply (part6_run A B K Kb c _ _ _ _) $$ [O0 S01 R01 HO]
  · isplitr; · iexact HR
    isplitl [O0]; · iexact O0
    isplitl [S01]; · iexact S01
    isplitl [R01]; · iexact R01
    iexact HO
  iintro %q6_0 ⟨O0, R01, HO, D01⟩
  iapply (part7_run A B K Kb c _ _ _) $$ [O1 R10 S11 HO]
  · isplitr; · iexact HR
    isplitl [O1]; · iexact O1
    isplitl [R10]; · iexact R10
    isplitl [S11]; · iexact S11
    iexact HO
  iintro %q7_0 %q7_1 ⟨O1, R10, S11, HO, S10, B10, D11⟩
  iapply (part8_run A B K Kb c _ _ _) $$ [S11 R11 R20 HO]
  · isplitr; · iexact HR
    isplitl [S11]; · iexact S11
    isplitl [R11]; · iexact R11
    isplitl [R20]; · iexact R20
    iexact HO
  iintro %q8_0 ⟨R11, R20, HO, S20⟩
  iapply (part9_run A B K Kb c _ _ _) $$ [O2 R20 S21 HO]
  · isplitr; · iexact HR
    isplitl [O2]; · iexact O2
    isplitl [R20]; · iexact R20
    isplitl [S21]; · iexact S21
    iexact HO
  iintro %q9_0 %q9_1 ⟨O2, R20, S21, HO, B20, D21⟩
  iapply (part10_run A B K Kb c _ _ _) $$ [O0 S21 R21 R01 HO]
  · isplitr; · iexact HR
    isplitl [O0]; · iexact O0
    isplitl [S21]; · iexact S21
    isplitl [R21]; · iexact R21
    isplitl [R01]; · iexact R01
    iexact HO
  iintro %q10_0 %q10_1 ⟨O0, R21, R01, HO, S01, B01⟩
  iapply (part11_run A B K Kb c _ _ _) $$ [O0 S02 R02 R11 HO]
  · isplitr; · iexact HR
    isplitl [O0]; · iexact O0
    isplitl [S02]; · iexact S02
    isplitl [R02]; · iexact R02
    isplitl [R11]; · iexact R11
    iexact HO
  iintro %q11_0 ⟨O0, R02, R11, HO, D02, S11⟩
  iapply (part12_run A B K Kb c _ _ _ _) $$ [O1 R11 S12 HO]
  · isplitr; · iexact HR
    isplitl [O1]; · iexact O1
    isplitl [R11]; · iexact R11
    isplitl [S12]; · iexact S12
    iexact HO
  iintro %q12_0 %q12_1 ⟨O1, R11, S12, HO, B11, D12⟩
  iapply (part13_run A B K Kb c _ _) $$ [S12 R12 R21 HO]
  · isplitr; · iexact HR
    isplitl [S12]; · iexact S12
    isplitl [R12]; · iexact R12
    isplitl [R21]; · iexact R21
    iexact HO
  iintro ⟨R12, R21, HO, S21, B21⟩
  iapply (part14_run A B K Kb c _ _ _) $$ [O2 B21 S22 R22 HO]
  · isplitr; · iexact HR
    isplitl [O2]; · iexact O2
    isplitl [B21]; · iexact B21
    isplitl [S22]; · iexact S22
    isplitl [R22]; · iexact R22
    iexact HO
  iintro %q14_0 %q14_1 ⟨O2, B21, R22, HO, D22⟩
  iapply (part15_run A B K Kb c _ _) $$ [O0 R02 HO]
  · isplitr; · iexact HR
    isplitl [O0]; · iexact O0
    isplitl [R02]; · iexact R02
    iexact HO
  iintro ⟨O0, R02, HO, S02, B02⟩
  iapply (part16_run A B K Kb c _ _ _) $$ [W0 O1 R12 HO]
  · isplitr; · iexact HR
    isplitl [W0]; · iexact W0
    isplitl [O1]; · iexact O1
    isplitl [R12]; · iexact R12
    iexact HO
  iintro ⟨W0, O1, R12, HO, S12, B12⟩
  iapply (part17_run A B K Kb c _ _) $$ [B12 W1 R22 HO]
  · isplitr; · iexact HR
    isplitl [B12]; · iexact B12
    isplitl [W1]; · iexact W1
    isplitl [R22]; · iexact R22
    iexact HO
  iintro ⟨B12, W1, R22, HO, S22⟩
  iapply (part18_run A B K Kb c _ _) $$ [O2 W2 R22 HO]
  · isplitr; · iexact HR
    isplitl [O2]; · iexact O2
    isplitl [W2]; · iexact W2
    isplitl [R22]; · iexact R22
    iexact HO
  iintro %q18_0 ⟨O2, W2, R22, HO, B22⟩
  icases HAg with ⟨G00, G10, G20, G01, G11, G21, G02, G12, G22⟩
  ihave F0 := (show agW A B c (keep c 0 2) 64 (keep_le c 0 2) ⊢ agW A B c (agFrom c 0 0) (agN 0) (agFrom_le c 0 0) from .rfl) $$ W0
  ihave F1 := (show agW A B c (keep c 1 2) 64 (keep_le c 1 2) ⊢ agW A B c (agFrom c 1 0) (agN 0) (agFrom_le c 1 0) from .rfl) $$ W1
  ihave F2 := (show agW A B c (keep c 2 2) 64 (keep_le c 2 2) ⊢ agW A B c (agFrom c 2 0) (agN 0) (agFrom_le c 2 0) from .rfl) $$ W2
  iapply (part19_run A B K Kb c _ _) $$ [F0 G00 F1 G10 F2 G20 HO]
  · isplitr; · iexact HR
    isplitl [F0]; · iexact F0
    isplitl [G00]; · iexact G00
    isplitl [F1]; · iexact F1
    isplitl [G10]; · iexact G10
    isplitl [F2]; · iexact F2
    isplitl [G20]; · iexact G20
    iexact HO
  iintro %q19_0 %q19_1 ⟨G00, G10, G20, HO, F0⟩
  iapply (part20_run A B K Kb c _ _ _ _ _ _) $$ [G00 G10 G20 HO]
  · isplitr; · iexact HR
    isplitl [G00]; · iexact G00
    isplitl [G10]; · iexact G10
    isplitl [G20]; · iexact G20
    iexact HO
  iintro %q20_0 %q20_1 ⟨G00, G10, G20, HO, T0, F1, T1, F2⟩
  ihave F0 := (agW_merge0 A B c 0) $$ [F0 T0]
  · isplitl [F0]; · iexact F0
    iexact T0
  ihave F1 := (agW_merge0 A B c 1) $$ [F1 T1]
  · isplitl [F1]; · iexact F1
    iexact T1
  iapply (part21_run A B K Kb c _ _ _) $$ [G20 F0 G01 F1 G11 HO]
  · isplitr; · iexact HR
    isplitl [G20]; · iexact G20
    isplitl [F0]; · iexact F0
    isplitl [G01]; · iexact G01
    isplitl [F1]; · iexact F1
    isplitl [G11]; · iexact G11
    iexact HO
  iintro %q21_0 %q21_1 %q21_2 %q21_3 ⟨G20, G01, G11, HO, T2⟩
  ihave F2 := (agW_merge0 A B c 2) $$ [F2 T2]
  · isplitl [F2]; · iexact F2
    iexact T2
  iapply (part22_run A B K Kb c _ _ _ _) $$ [F2 G21 G01 G11 HO]
  · isplitr; · iexact HR
    isplitl [F2]; · iexact F2
    isplitl [G21]; · iexact G21
    isplitl [G01]; · iexact G01
    isplitl [G11]; · iexact G11
    iexact HO
  iintro ⟨G21, G01, G11, HO, F0, T0, F1⟩
  ihave F0 := (agW_merge1 A B c 0) $$ [F0 T0]
  · isplitl [F0]; · iexact F0
    iexact T0
  iapply (part23_run A B K Kb c _ _ _ _ _ _) $$ [G11 G21 F0 G02 HO]
  · isplitr; · iexact HR
    isplitl [G11]; · iexact G11
    isplitl [G21]; · iexact G21
    isplitl [F0]; · iexact F0
    isplitl [G02]; · iexact G02
    iexact HO
  iintro %q23_0 %q23_1 ⟨G11, G21, G02, HO, T1, F2, T2⟩
  ihave F1 := (agW_merge1 A B c 1) $$ [F1 T1]
  · isplitl [F1]; · iexact F1
    iexact T1
  ihave F2 := (agW_merge1 A B c 2) $$ [F2 T2]
  · isplitl [F2]; · iexact F2
    iexact T2
  iapply (part24_run A B K Kb c _ _ _) $$ [F1 G12 F2 G22 G02 HO]
  · isplitr; · iexact HR
    isplitl [F1]; · iexact F1
    isplitl [G12]; · iexact G12
    isplitl [F2]; · iexact F2
    isplitl [G22]; · iexact G22
    isplitl [G02]; · iexact G02
    iexact HO
  iintro %q24_0 ⟨G12, G22, G02, HO, F0, T0⟩
  iapply (part25_run A B K Kb c _ _) $$ [F0 T0 G12 G22 HO]
  · isplitr; · iexact HR
    isplitl [F0]; · iexact F0
    isplitl [T0]; · iexact T0
    isplitl [G12]; · iexact G12
    isplitl [G22]; · iexact G22
    iexact HO
  iintro ⟨G12, G22, HO, W⟩
  ihave O0 := (out_join (F := F) c 0) $$ [O0 D02 D01 E0]
  · isplitl [O0]; · iexists _; iexact O0
    isplitl [D02]; · iexists _; iexact D02
    isplitl [D01]; · iexists _; iexact D01
    iexact E0
  ihave O1 := (out_join (F := F) c 1) $$ [O1 D12 D11 E1]
  · isplitl [O1]; · iexists _; iexact O1
    isplitl [D12]; · iexists _; iexact D12
    isplitl [D11]; · iexists _; iexact D11
    iexact E1
  ihave O2 := (out_join (F := F) c 2) $$ [O2 D22 D21 E2]
  · isplitl [O2]; · iexists _; iexact O2
    isplitl [D22]; · iexists _; iexact D22
    isplitl [D21]; · iexists _; iexact D21
    iexact E2
  ihave Hout := (show iprop(grpAny (F := F) c oM 0 ∗ grpAny (F := F) c oM 1 ∗ grpAny (F := F) c oM 2) ⊢ ouAny (F := F) c 0 1536 (Nat.le_refl _)
    from groups_join c oM) $$ [O0 O1 O2]
  · isplitl [O0]; · iexact O0
    isplitl [O1]; · iexact O1
    iexact O2
  iapply (wp_load_o_any (n := 1536) c rfl (Nat.le_refl _)) $$ Hout; iintro %X Hout
  iapply (wp_store_o (n := 1536) c rfl (Nat.le_refl _) (k0_pay31 (whole A B)) rfl) $$ Hout; iintro Hout
  rw [wp_ret]; imodintro
  iapply Hk
  unfold bodyOut each
  isplitl [HA]; · iexact HA
  isplitl [HB]; · iexact HB
  isplitl [Hout]; · iexact Hout
  isplitl [S00 S10 S20 S01 S11 S21 S02 S12 S22 B00 B10 B20 B01 B11 B21 B02 B12 B22 W]
  · isplitl [S00 S10 S20 S01 S11 S21 S02 S12 S22]
    · iapply (show (each fun t s => sbAny (F := F) c t s) ⊢ iprop(bufAny (F := F) c (sbM 0) ∗ bufAny (F := F) c (sbM 1) ∗ bufAny (F := F) c (sbM 2)) from bufs_join c sbM)
      unfold each
      isplitl [S00]; · iexact S00
      isplitl [S10]; · iexact S10
      isplitl [S20]; · iexact S20
      isplitl [S01]; · iexact S01
      isplitl [S11]; · iexact S11
      isplitl [S21]; · iexact S21
      isplitl [S02]; · iexact S02
      isplitl [S12]; · iexact S12
      iexact S22
    isplitl [B00 B10 B20 B01 B11 B21 B02 B12 B22]
    · iapply (show (each fun t s => rbAny (F := F) c t s) ⊢ iprop(bufAny (F := F) c (rbM 0) ∗ bufAny (F := F) c (rbM 1) ∗ bufAny (F := F) c (rbM 2)) from bufs_join c rbM)
      unfold each
      isplitl [B00]; · iapply (rb_any c 0 0 _); iexact B00
      isplitl [B10]; · iapply (rb_any c 1 0 _); iexact B10
      isplitl [B20]; · iapply (rb_any c 2 0 _); iexact B20
      isplitl [B01]; · iapply (rb_any c 0 1 _); iexact B01
      isplitl [B11]; · iapply (rb_any c 1 1 _); iexact B11
      isplitl [B21]; · iapply (rb_any c 2 1 _); iexact B21
      isplitl [B02]; · iapply (rb_any c 0 2 _); iexact B02
      isplitl [B12]; · iapply (rb_any c 1 2 _); iexact B12
      iapply (rb_any c 2 2 _); iexact B22
    iapply (ag_buf (F := F) c _); iexact W
  isplitl [HO]; · iexact HO
  isplitl [Hat]; · iexact Hat
  isplitl [R00 R10 R20 R01 R11 R21 R02 R12 R22]
  · isplitl [R00]; · iexact R00
    isplitl [R10]; · iexact R10
    isplitl [R20]; · iexact R20
    isplitl [R01]; · iexact R01
    isplitl [R11]; · iexact R11
    isplitl [R21]; · iexact R21
    isplitl [R02]; · iexact R02
    isplitl [R12]; · iexact R12
    iexact R22
  isplitl [G00]; · iexact G00
  isplitl [G10]; · iexact G10
  isplitl [G20]; · iexact G20
  isplitl [G01]; · iexact G01
  isplitl [G11]; · iexact G11
  isplitl [G21]; · iexact G21
  isplitl [G02]; · iexact G02
  isplitl [G12]; · iexact G12
  iexact G22

end Cert.KernelIdealProof
-- ==== Proof.KernelIdeal.Run.lean ====
/-
  The kernel as the pipeline runs it: what each device finds in its staging buffers and leaves there, what
  its scratch memory and semaphores are before and after, and that the body meets this.
-/
module

public import proofs.«01_k».proof.Proof.KernelIdeal.Body
public import proofs.«01_k».proof.Proof.Gen.KernelIdeal.Frame

@[expose] public section

set_option maxRecDepth 16384

noncomputable section

namespace Cert.KernelIdealProof

open Cert.KernelIdeal Cert.KernelIdeal.Gen Cert.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, as one family -/

/-- The transfers' semaphores. -/
abbrev osem (x : Cx) : SemLoc sig := .dma (dsem x.1 x.2.1 x.2.2)

omit [FloatOps F] in
/-- A family over all transfers' cells is its four families. -/
theorem fam_eq (P : Fin 4 → Fin 3 → Fin 3 → sProp (MT nD τ sig Unit (Elt F) ℕ UU ℕ)) :
    (bigSep Finset.univ fun x : Cx => P x.1 x.2.1 x.2.2) = iprop(each (P 0) ∗ each (P 1) ∗ each (P 2) ∗ each (P 3)) := by
  rw [each_eq, each_eq, each_eq, each_eq, bigSep_univ_prod]
  exact bigSep_univ_eq_bigSepL [0, 1, 2, 3] (by decide) (by decide) fun k : Fin 4 => bigSep Finset.univ fun y : Fin 3 × Fin 3 => P k y.1 y.2

section Close

variable (A : Dev nD → Vec F S1536x768 .f32) (B : Dev nD → Vec F S768x1536 .f32) (K : Dev nD × Cx → ℕ) (Kb : Dev nD → ℕ)

/-- A transfer's cell a round on is at zero, -/
theorem close_cell (c : Dev nD) (x : Cx) :
    iprop(records A B K Kb ∗ atPos ER (cell c x.1 x.2.1 x.2.2) 1 ∅ 0)
      ⊢ (|={Set.univ}=> semVal (cell c x.1 x.2.1 x.2.2) 0 : sProp 𝕄) := by
  iintro ⟨HR, Hat⟩
  iapply (Rounds.cell_close ER (sched A B) (κ := K (c, x)) (Set.mem_univ _) (fun h => h) (R := 1)
    (duties_later A B (cell c x.1 x.2.1 x.2.2)))
  isplitl [HR]; · iapply (inv_cell A B K Kb c x.1 x.2.1 x.2.2); iexact HR
  iexact Hat

/-- and so is the barrier. -/
theorem close_bar (c : Dev nD) :
    iprop(records A B K Kb ∗ atPos ER (barCell c) 1 ∅ 0) ⊢ (|={Set.univ}=> semVal (barCell c) 0 : sProp 𝕄) := by
  iintro ⟨HR, Hat⟩
  iapply (Rounds.cell_close ER (sched A B) (κ := Kb c) (Set.mem_univ _) (fun h => h) (R := 1) (duties_later A B (barCell c)))
  isplitl [HR]; · iapply (inv_bar A B K Kb c); iexact HR
  iexact Hat

/-- All a device's transfers' cells are at zero once all transfers are done. -/
theorem close_all (c : Dev nD) :
    iprop(records A B K Kb ∗ each (rsDone (F := F) c) ∗ each (agDone (F := F) c))
      ⊢ (|={Set.univ}=> bigSep Finset.univ fun x : Cx => semVal (cell c x.1 x.2.1 x.2.2) 0 : sProp 𝕄) := by
  have h1 : each (rsDone (F := F) c) = iprop((each fun t s => atPos ER (cell c 0 t s) 1 ∅ 0) ∗ (each fun t s => atPos ER (cell c 1 t s) 1 ∅ 0)) := each_sep _ _
  have h2 : each (agDone (F := F) c) = iprop((each fun t s => atPos ER (cell c 2 t s) 1 ∅ 0) ∗ (each fun t s => atPos ER (cell c 3 t s) 1 ∅ 0)) := each_sep _ _
  rw [h1, h2]
  refine BIBase.Entails.trans (Q := iprop(records A B K Kb ∗ bigSep Finset.univ fun x : Cx => atPos ER (cell c x.1 x.2.1 x.2.2) 1 ∅ 0)) ?_ ?_
  · rw [fam_eq fun k t s => (atPos ER (cell c k t s) 1 ∅ 0 : sProp 𝕄)]
    iintro ⟨HR, ⟨H0, H1⟩, H2, H3⟩
    isplitl [HR]; · iexact HR
    isplitl [H0]; · iexact H0
    isplitl [H1]; · iexact H1
    isplitl [H2] <;> iassumption
  · exact (BI.bigSep_with_persistent fun x _ => close_cell A B K Kb c x).trans (bigSep_fupd _ _)

end Close

/-! ## The pipeline's data -/

/-- Device `c`'s operands as the pipeline stages them. -/
def stgA (c : Dev nD) : Vec F S1536x768 .f32 :=
  (win0_0.blk (0 : Fin 1)).view.read (Elt F) ((s₀ m ρ).mem ((c : Thread nD τ).loc main_arg0))
def stgB (c : Dev nD) : Vec F S768x1536 .f32 :=
  (win0_1.blk (0 : Fin 1)).view.read (Elt F) ((s₀ m ρ).mem ((c : Thread nD τ).loc main_arg1))

/-- The result, the same on every device: the gathered rows widened. -/
def outV : (R 1536).Idx → Elt F .f32 := k0_pay31 (whole (stgA m ρ) (stgB m ρ))

/-- A device's scratch memory, holding anything. -/
def scr (c : Dev nD) : sProp 𝕄 :=
  iprop((bufAny (F := F) c (sbM 0) ∗ bufAny (F := F) c (sbM 1) ∗ bufAny (F := F) c (sbM 2))
    ∗ (bufAny (F := F) c (rbM 0) ∗ bufAny (F := F) c (rbM 1) ∗ bufAny (F := F) c (rbM 2)) ∗ bufAny (F := F) c agM)

/-- What a device holds of the protocol at the start: its tokens, positions and credits. -/
def hand (c : Dev nD) : sProp 𝕄 :=
  iprop((dutyTok ER (barCell (peer c 0)) 0 0 ∗ dutyTok ER (barCell (peer c 1)) 0 1 ∗ dutyTok ER (barCell (peer c 2)) 0 2)
    ∗ atPos ER (barCell c) 0 ∅ 0 ∗ cred (tallyAt (barCell c) () 3) ∗ each (rsCells (F := F) c) ∗ each (agCells (F := F) c))

def start (c : Dev nD) : sProp 𝕄 := iprop((∃ K Kb, records (stgA m ρ) (stgB m ρ) K Kb) ∗ hand (F := F) c)

/-- Before the body, -/
def Φ₀ (c : Dev nD) : sProp 𝕄 := iprop(start m ρ c ∗ scr (F := F) c)
/-- and after it: every semaphore at zero. -/
def Φ₁ (c : Dev nD) : sProp 𝕄 :=
  iprop(scr (F := F) c ∗ (bigSep Finset.univ fun x : Cx => semVal (cell c x.1 x.2.1 x.2.2) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgA m ρ c
    | ⟨1, _⟩ => stgB m ρ c
    | ⟨2, _⟩ => outV m ρ
  Φ t := match t with
    | ⟨0, _⟩ => Φ₀ m ρ c
    | ⟨_ + 1, _⟩ => Φ₁ (F := F) c
  q _ := fullShare
  owed t := match t with
    | ⟨0, _⟩ => owed c 0
    | ⟨_ + 1, _⟩ => 0

/-! ## The body -/

abbrev t₀ : Fin cfg0.N := t0_0

def bodyPre (c : Dev nD) : sProp 𝕄 :=
  iprop(Φ₀ m ρ c ∗ (dats m ρ 0 c).owesAt () t₀.castSucc
    ∗ (∃ d, owns (c : Thread nD τ) (Memref.whole cc0_stg0_0) fullShare ((dats m ρ 0 c).before (0 : Fin 3) t₀ d))
    ∗ (∃ d, owns (c : Thread nD τ) (Memref.whole cc0_stg1_0) fullShare ((dats m ρ 0 c).before (1 : Fin 3) t₀ d))
    ∗ (∃ d, owns (c : Thread nD τ) (Memref.whole cc0_stg2_0) fullShare ((dats m ρ 0 c).before (2 : Fin 3) t₀ d)))

def bodyPost (c : Dev nD) : sProp 𝕄 :=
  iprop(Φ₁ (F := F) c ∗ (dats m ρ 0 c).owesAt () t₀.succ
    ∗ owns (c : Thread nD τ) (Memref.whole cc0_stg0_0) fullShare (stgA m ρ c)
    ∗ owns (c : Thread nD τ) (Memref.whole cc0_stg1_0) fullShare (stgB m ρ c)
    ∗ owns (c : Thread nD τ) (Memref.whole cc0_stg2_0) fullShare (outV m ρ))

theorem before_a (c : Dev nD) (d) : (dats m ρ 0 c).before (0 : Fin 3) t₀ d = stgA m ρ c := by
  unfold Dat.before; rw [if_pos (fetch0_0 t₀)]; rfl
theorem before_b (c : Dev nD) (d) : (dats m ρ 0 c).before (1 : Fin 3) t₀ d = stgB m ρ c := by
  unfold Dat.before; rw [if_pos (fetch0_1 t₀)]; rfl

/-- What the pipeline hands the body is what the body's run starts from, -/
theorem pre_in (c : Dev nD) :
    bodyPre m ρ c ⊢ iprop((∃ K Kb, records (stgA m ρ) (stgB m ρ) K Kb) ∗ bodyIn (stgA m ρ) (stgB m ρ) c) := by
  unfold bodyPre Φ₀ start hand scr bodyIn Dat.owesAt Pipeline.owesWithin aIn bIn
  iintro ⟨⟨⟨HR, Htk, Hat, Hc, HRs, HAg⟩, Hscr⟩, ⟨%W, %hW, HO⟩, ⟨%dA, HA⟩, ⟨%dB, HB⟩, ⟨%dO, HO2⟩⟩
  isplitl [HR]; · iexact HR
  isplitl [HA]; · rw [before_a]; iexact HA
  isplitl [HB]; · rw [before_b]; iexact HB
  isplitl [HO2]
  · unfold bufAny; iexists _; iexact HO2
  isplitl [Hscr]; · iexact Hscr
  isplitl [HO]
  · unfold owing; iexists W
    iapply (show owes (c : Thread nD τ) ((dats m ρ 0 c).owed t₀.castSucc) W ⊢ (owes (c : Thread nD τ) (owed c 0) W : sProp 𝕄) from .rfl)
    iexact HO
  isplitl [Htk]; · iexact Htk
  isplitl [Hat]; · iexact Hat
  isplitl [Hc]; · iexact Hc
  isplitl [HRs] <;> iassumption

/-- and what it ends with is, the cells closed, what the pipeline wants back. -/
theorem out_post (c : Dev nD) (K Kb) :
    iprop(records (stgA m ρ) (stgB m ρ) K Kb ∗ bodyOut (stgA m ρ) (stgB m ρ) c) ⊢ (|={Set.univ}=> bodyPost m ρ c : sProp 𝕄) := by
  unfold bodyOut
  iintro ⟨#HR, HA, HB, HO2, Hscr, HO, Hat, HRs, HAg⟩
  imod (close_all (stgA m ρ) (stgB m ρ) K Kb c) $$ [HRs HAg] with Hz
  · isplitr; · iexact HR
    isplitl [HRs] <;> iassumption
  imod (close_bar (stgA m ρ) (stgB m ρ) K Kb c) $$ [Hat] with Hzb
  · isplitr; · iexact HR
    iexact Hat
  imodintro
  unfold bodyPost Φ₁ scr aIn bIn
  isplitl [Hscr Hz Hzb]
  · isplitl [Hscr]; · iexact Hscr
    isplitl [Hz] <;> iassumption
  isplitl [HO]
  · unfold owing Dat.owesAt Pipeline.owesWithin
    icases HO with ⟨%W, HO⟩
    iexists W
    isplitr; · ipureintro; exact fun _ _ => Or.inl trivial
    rw [owed_end]
    iexact HO
  isplitl [HA]; · iexact HA
  isplitl [HB]; · iexact HB
  iapply (show ou c 0 1536 (Nat.le_refl _) (outV m ρ) ⊢ (owns (c : Thread nD τ) (Memref.whole cc0_stg2_0) fullShare (outV m ρ) : sProp 𝕄) from
    Entails.of_eq (rows_whole (c : Thread nD τ) oM (outV m ρ)))
  iexact HO2

/-- The body meets the pipeline's data. -/
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) (fun _ => bodyPost m ρ c)
  refine (pre_in m ρ c).trans ?_
  iintro ⟨⟨%K, %Kb, #HR⟩, Hin⟩
  iapply (wp_fupd (E := Set.univ))
  iapply (body_run (stgA m ρ) (stgB m ρ) K Kb c) $$ [Hin]
  · isplitr; · iexact HR
    iexact Hin
  iintro Hout
  iapply (out_post m ρ c K Kb)
  isplitr; · iexact HR
  iexact Hout

end Cert.KernelIdealProof
-- ==== Proof.KernelIdeal.Launch.lean ====
/-
  The launch: the protocol's cells are set up on all devices at once, each device is dealt the tokens of
  the payments it makes, and the run of the whole program follows.
-/
module

public import proofs.«01_k».proof.Proof.KernelIdeal.Run
public import Idealize.ShloMosaic.Lib.Pipeline.CollectiveSegs

@[expose] public section

set_option maxRecDepth 16384

noncomputable section

namespace Cert.KernelIdealProof

open Cert.KernelIdeal Cert.KernelIdeal.Gen Cert.Rows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

/-- The transfers' cells of all devices, -/
abbrev xcell (x : Dev nD × Cx) : GSem nD τ sig := cell x.1 x.2.1 x.2.2.1 x.2.2.2
/-- and with them the barriers. -/
def kcell : (Dev nD × Cx) ⊕ Dev nD → GSem nD τ sig
  | .inl x => xcell x
  | .inr c => barCell c

theorem xcell_injective : Function.Injective xcell := by
  rintro ⟨c, k, t, s⟩ ⟨c', k', t', s'⟩ h
  obtain ⟨rfl, rfl, rfl, rfl⟩ := cell_inj h
  rfl

theorem kcell_injective : Function.Injective kcell := by
  rintro (x | c) (x' | c') h
  · exact congrArg Sum.inl (xcell_injective h)
  · exact absurd h (cell_ne_bar _ _ _ _ _)
  · exact absurd h.symm (cell_ne_bar _ _ _ _ _)
  · exact congrArg Sum.inr (barCell_inj h)

def theCells : Finset (GSem nD τ sig) := Finset.univ.map ⟨kcell, kcell_injective⟩

/-- The tokens: one of each transfer's cell, one per axis of each barrier. -/
def tokOf : (Dev nD × Cx) ⊕ (Dev nD × Fin 3) → GSem nD τ sig × ℕ × Fin 3
  | .inl x => (xcell x, 0, 0)
  | .inr x => (barCell x.1, 0, x.2)

theorem tokOf_injective : Function.Injective tokOf := by
  rintro (x | ⟨c, a⟩) (x' | ⟨c', a'⟩) h
  · exact congrArg Sum.inl (xcell_injective (congrArg Prod.fst h))
  · exact absurd (congrArg Prod.fst h) (cell_ne_bar _ _ _ _ _)
  · exact absurd (congrArg Prod.fst h).symm (cell_ne_bar _ _ _ _ _)
  · have h1 : c = c' := barCell_inj (congrArg Prod.fst h)
    have h2 : a = a' := congrArg (fun x : GSem nD τ sig × ℕ × Fin 3 => x.2.2) h
    subst h1 h2; rfl

def theToks : Finset (GSem nD τ sig × ℕ × Fin 3) := Finset.univ.map ⟨tokOf, tokOf_injective⟩

def u₀ : UU :=
  (initOf (Pipeline.cells cfgs cellOf_inj) (Pipeline.launchToks cfgs cellOf_inj), initOf theCells theToks)

/-- A statement per cell of a device: its transfers' cells and its barrier. -/
def perCell (Ψ : GSem nD τ sig → sProp (MT nD τ sig Unit (Elt F) ℕ UU ℕ)) (c : Dev nD) : sProp 𝕄 :=
  iprop((bigSep Finset.univ fun x : Cx => Ψ (xcell (c, x))) ∗ Ψ (barCell c))

/-- The tokens of device `c`'s own cells. -/
def toks (c : Dev nD) : sProp 𝕄 :=
  iprop((bigSep Finset.univ fun x : Cx => dutyTok ER (xcell (c, x)) 0 0)
    ∗ bigSep Finset.univ fun a : Fin 3 => dutyTok ER (barCell c) 0 a)

omit [FloatOps F] in
theorem univ_sum {α β : Type} [Fintype α] [Fintype β] [DecidableEq α] [DecidableEq β] (Φ : α ⊕ β → sProp (MT nD τ sig Unit (Elt F) ℕ UU ℕ)) :
    bigSep Finset.univ Φ = iprop((bigSep Finset.univ fun a => Φ (.inl a)) ∗ bigSep Finset.univ fun b => Φ (.inr b)) := by
  rw [← Finset.univ_disjSum_univ, ← Finset.map_inl_disjUnion_map_inr, Finset.disjUnion_eq_union, bigSep_union (Finset.disjoint_map_inl_map_inr _ _), bigSep_map, bigSep_map]
  rfl

omit [FloatOps F] in
theorem cells_eq (Ψ : GSem nD τ sig → sProp (MT nD τ sig Unit (Elt F) ℕ UU ℕ)) :
    bigSep theCells Ψ = bigSep Finset.univ (perCell Ψ) := by
  unfold theCells perCell
  rw [bigSep_map, univ_sum, bigSep_sep', bigSep_univ_prod]
  rfl

omit [FloatOps F] in
theorem toks_eq : bigSep theToks (fun x => (dutyTok ER x.1 x.2.1 x.2.2 : sProp 𝕄)) = bigSep Finset.univ fun c : Dev nD => toks c := by
  unfold theToks toks
  rw [bigSep_map, univ_sum, bigSep_sep', bigSep_univ_prod, bigSep_univ_prod]
  rfl

/-! ## Dealing -/

/-- What the launch deals device `c`. -/
def G (c : Dev nD) : sProp 𝕄 :=
  iprop(perCell (fun g => roundState ER (sched (stgA m ρ) (stgB m ρ)) g 0) c
    ∗ (perCell (fun g => reached ER g 0) c ∗ perCell (fun g => atPos ER g 0 ∅ 0) c) ∗ toks c)

theorem fund_cells : BI.own (ER (initOf theCells theToks)) ⊢ (|==> bigSep Finset.univ (G m ρ) : sProp 𝕄) := by
  iintro HX
  imod (Rounds.fund ER (sched (stgA m ρ) (stgB m ρ)) theCells theToks) $$ HX with ⟨Hst, Hr, Hat, Htok⟩
  imodintro
  ihave Hst := (Entails.of_eq (cells_eq fun g => roundState ER (sched (stgA m ρ) (stgB m ρ)) g 0)) $$ Hst
  ihave Hat := (Entails.of_eq (cells_eq fun g => atPos ER g 0 ∅ 0)) $$ Hat
  ihave Hr := (Entails.of_eq (cells_eq fun g => reached ER g 0)) $$ Hr
  ihave Htok := (Entails.of_eq toks_eq) $$ Htok
  unfold G; simp only [bigSep_sep']
  isplitl [Hst]; · iexact Hst
  isplitl [Hat Hr]
  · isplitl [Hr] <;> iassumption
  iexact Htok

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores are its cells. -/
theorem sems0_eq (c : Dev nD) :
    iprop(Pipeline.ownSems0 (Ix := Unit) (Name := ℕ) (U := UU) (Lvl := ℕ) (Val := Elt F) (τ := τ) osem c ∗ unscopedSems0 c)
      = (perCell (fun g => semVal g 0) c : sProp 𝕄) := by
  rw [unscopedSems0_eq]; rfl

/-- A device's cells are given their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(perCell (fun g => iprop(∃ κ : ℕ, cellInv ER (sched (stgA m ρ) (stgB m ρ)) κ g)) c
          ∗ (perCell (fun g => reached ER g 0) c ∗ perCell (fun g => atPos ER g 0 ∅ 0) c) ∗ toks c) := by
  unfold G
  iintro ⟨Hos, Hus, Hst, Hat, Htok⟩
  ihave Hv := (Entails.of_eq (sems0_eq (F := F) c)) $$ [Hos Hus]
  · isplitl [Hos] <;> iassumption
  have hone : ∀ g : GSem nD τ sig, iprop(semVal g 0 ∗ roundState ER (sched (stgA m ρ) (stgB m ρ)) g 0)
      ⊢ (|={Set.univ}=> iprop(∃ κ : ℕ, cellInv ER (sched (stgA m ρ) (stgB m ρ)) κ g) : sProp 𝕄) := fun g =>
    (Rounds.body_intro ER (sched (stgA m ρ) (stgB m ρ)) g).trans inv_alloc
  unfold perCell
  icases Hv with ⟨Hv, Hvb⟩
  icases Hst with ⟨Hst, Hstb⟩
  imod (show iprop((bigSep Finset.univ fun x : Cx => semVal (xcell (c, x)) 0) ∗ bigSep Finset.univ fun x : Cx => roundState ER (sched (stgA m ρ) (stgB m ρ)) (xcell (c, x)) 0)
      ⊢ (|={Set.univ}=> bigSep Finset.univ fun x : Cx => iprop(∃ κ : ℕ, cellInv ER (sched (stgA m ρ) (stgB m ρ)) κ (xcell (c, x))) : sProp 𝕄) from by
        rw [← bigSep_sep']
        exact (bigSep_mono fun x _ => hone (xcell (c, x))).trans (bigSep_fupd _ _)) $$ [Hv Hst] with Hinv
  · isplitl [Hv] <;> iassumption
  imod (hone (barCell c)) $$ [Hvb Hstb] with Hinvb
  · isplitl [Hvb] <;> iassumption
  imodintro
  isplitl [Hinv Hinvb]
  · isplitl [Hinv] <;> iassumption
  isplitl [Hat]; · iexact Hat
  iexact Htok

/-- The device that pays a transfer's cell of device `c`: itself at a departure, the peer at an arrival. -/
def payer (x : Cx) (c : Dev nD) : Dev nD := match x.1 with
  | 0 => c
  | 1 => peer c (rsAx x.2.1 x.2.2)
  | 2 => c
  | 3 => peer c (agAx x.2.1 x.2.2)
theorem payer_payer (x : Cx) (c : Dev nD) : payer x (payer x c) = c := by
  rcases x with ⟨k, t, s⟩
  fin_cases k
  · rfl
  · exact peer_peer c _
  · rfl
  · exact peer_peer c _
def payerE (x : Cx) : Dev nD ≃ Dev nD := ⟨payer x, payer x, payer_payer x, payer_payer x⟩
def peerE (a : Fin 3) : Dev nD ≃ Dev nD := ⟨fun c => peer c a, fun c => peer c a, fun c => peer_peer c a, fun c => peer_peer c a⟩

/-- The tokens of the payments device `c` makes. -/
def payToks (c : Dev nD) : sProp 𝕄 :=
  iprop((bigSep Finset.univ fun x : Cx => dutyTok ER (xcell (payer x c, x)) 0 0)
    ∗ bigSep Finset.univ fun a : Fin 3 => dutyTok ER (barCell (peer c a)) 0 a)

omit [FloatOps F] in
theorem swap {I : Type} [Fintype I] [DecidableEq I] (Φ : Dev nD → I → sProp (MT nD τ sig Unit (Elt F) ℕ UU ℕ)) :
    (bigSep Finset.univ fun c => bigSep Finset.univ fun i => Φ c i) = bigSep Finset.univ fun i => bigSep Finset.univ fun c => Φ c i := by
  rw [← bigSep_univ_prod (fun x : Dev nD × I => Φ x.1 x.2), bigSep_univ_equiv (Equiv.prodComm I (Dev nD)), bigSep_univ_prod]
  rfl

omit [FloatOps F] in
/-- Every token goes to the device that pays with it. -/
theorem toks_around : (bigSep Finset.univ fun c : Dev nD => (toks c : sProp 𝕄)) = bigSep Finset.univ fun c : Dev nD => payToks c := by
  unfold toks payToks
  rw [bigSep_sep', bigSep_sep', swap (fun c x => dutyTok ER (xcell (c, x)) 0 0), swap (fun c x => dutyTok ER (xcell (payer x c, x)) 0 0),
    swap (fun c a => dutyTok ER (barCell c) 0 a), swap (fun c a => dutyTok ER (barCell (peer c a)) 0 a)]
  congr 1
  · exact bigSep_congr fun x _ => bigSep_univ_equiv (payerE x) fun c => dutyTok ER (xcell (c, x)) 0 0
  · exact bigSep_congr fun a _ => bigSep_univ_equiv (peerE a) fun c => dutyTok ER (barCell c) 0 a

/-- What every device knows of the cells. -/
def known (K : Dev nD × Cx → ℕ) (Kb : Dev nD → ℕ) : sProp 𝕄 :=
  iprop((bigSep Finset.univ fun x : Dev nD × Cx => cellInv ER (sched (stgA m ρ) (stgB m ρ)) (K x) (xcell x))
    ∗ (bigSep Finset.univ fun c : Dev nD => cellInv ER (sched (stgA m ρ) (stgB m ρ)) (Kb c) (barCell c))
    ∗ (bigSep Finset.univ fun x : Dev nD × Cx => reached ER (xcell x) 0)
    ∗ (bigSep Finset.univ fun c : Dev nD => reached ER (barCell c) 0))

instance known_persistent (K : Dev nD × Cx → ℕ) (Kb : Dev nD → ℕ) : BI.Persistent (known m ρ K Kb) := by unfold known; infer_instance

def linear (c : Dev nD) : sProp 𝕄 := iprop(perCell (fun g => atPos ER g 0 ∅ 0) c ∗ payToks (F := F) c)

/-- What a device has of the protocol once all cells are set up. -/
def G' (c : Dev nD) : sProp 𝕄 := iprop((∃ K Kb, known m ρ K Kb) ∗ linear (F := F) c)

omit [FloatOps F] in
theorem perCell_all (Ψ : GSem nD τ sig → sProp (MT nD τ sig Unit (Elt F) ℕ UU ℕ)) :
    bigSep Finset.univ (perCell Ψ) = iprop((bigSep Finset.univ fun x : Dev nD × Cx => Ψ (xcell x)) ∗ bigSep Finset.univ fun c : Dev nD => Ψ (barCell c)) := by
  unfold perCell; rw [bigSep_sep', bigSep_univ_prod]

theorem regroup :
    (bigSep Finset.univ fun c : Dev nD => iprop(perCell (fun g => iprop(∃ κ : ℕ, cellInv ER (sched (stgA m ρ) (stgB m ρ)) κ g)) c
          ∗ (perCell (fun g => reached ER g 0) c ∗ perCell (fun g => atPos ER g 0 ∅ 0) c) ∗ toks c) : sProp 𝕄)
      ⊢ bigSep Finset.univ (G' m ρ) := by
  rw [bigSep_sep', bigSep_sep', bigSep_sep', toks_around]
  iintro ⟨HI, ⟨HR, Hat⟩, Htok⟩
  ihave HI := (Entails.of_eq (perCell_all fun g => iprop(∃ κ : ℕ, cellInv ER (sched (stgA m ρ) (stgB m ρ)) κ g))) $$ HI
  ihave HR := (Entails.of_eq (perCell_all fun g => (reached ER g 0 : sProp 𝕄))) $$ HR
  icases HI with ⟨HI, HIb⟩
  icases HR with ⟨#HR, #HRb⟩
  ihave HK := (BI.bigSep_exists_pi Finset.univ (fun (x : Dev nD × Cx) (κ : ℕ) => (cellInv ER (sched (stgA m ρ) (stgB m ρ)) κ (xcell x) : sProp 𝕄))) $$ HI
  icases HK with ⟨%K, #HI⟩
  ihave HK := (BI.bigSep_exists_pi Finset.univ (fun (c : Dev nD) (κ : ℕ) => (cellInv ER (sched (stgA m ρ) (stgB m ρ)) κ (barCell c) : sProp 𝕄))) $$ HIb
  icases HK with ⟨%Kb, #HIb⟩
  iapply (BI.bigSep_with_persistent (R := known m ρ K Kb) (Φ := linear (F := F)) (S := Finset.univ) fun c _ => show iprop(known m ρ K Kb ∗ linear (F := F) c) ⊢ G' m ρ c from by
    unfold G'
    iintro ⟨#HK, HL⟩
    isplitr; · iexists K; iexists Kb; iexact HK
    iexact HL)
  isplitr
  · unfold known
    isplitr; · iexact HI
    isplitr; · iexact HIb
    isplitr; · iexact HR
    iexact HRb
  unfold linear
  rw [bigSep_sep']
  isplitl [Hat]; · iexact Hat
  iexact Htok

/-- All devices' cells are set up in one step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) := ⟨barCell_inj, fun h => h ▸ rfl⟩
theorem cell_eq_iff {c c' : Dev nD} {k k' : Fin 4} {t t' s s' : Fin 3} :
    Iff (cell c k t s = cell c' k' t' s') (c = c' ∧ k = k' ∧ t = t' ∧ s = s') :=
  ⟨cell_inj, fun ⟨h1, h2, h3, h4⟩ => by subst h1 h2 h3 h4; rfl⟩
theorem peer_iff (c d : Dev nD) (a : Fin 3) : Iff (c = peer d a) (d = peer c a) :=
  ⟨fun h => by rw [h, peer_peer], fun h => by rw [h, peer_peer]⟩

/-- What a list of payments gives a cell. -/
theorem tally_cons (p : GSem nD τ sig × ℕ) (l : List (GSem nD τ sig × ℕ)) (g : GSem nD τ sig) :
    tally (p :: l) g () = tally l g () + if g = p.1 then p.2 else 0 := by
  show (tally l + tallyAt p.1 () p.2) g () = _
  rw [Pi.add_apply, Finsupp.add_apply, tallyAt_apply]
  simp only [and_true]
theorem tally_nil (g : GSem nD τ sig) : tally [] g () = 0 := rfl

/-- What a device owes at the launch: all its payments. -/
def O₀ (c : Dev nD) : CellTallies nD τ sig Unit := owed c 0

/-- Each of a device's peers gets one unit of its barrier from it, -/
theorem pays_bar (d c : Dev nD) : O₀ d (barCell c) ()
    = ((if d = peer c 2 then 1 else 0) + if d = peer c 1 then 1 else 0) + if d = peer c 0 then 1 else 0 := by
  unfold O₀ owed pays
  rw [List.drop_zero]
  simp only [tally_cons, tally_nil, bar_eq_iff, (fun d k t s c => Ne.symm (cell_ne_bar d c k t s) : ∀ d k t s c, barCell c ≠ cell d k t s),
    if_false, Nat.zero_add, Nat.add_zero, peer_iff c d]

/-- and each arrival's peer that transfer's credit. -/
theorem pays_rs (d c : Dev nD) (t s : Fin 3) : O₀ d (cell c 1 t s) () = if d = peer c (rsAx t s) then cr (rsN s) else 0 := by
  unfold O₀ owed pays
  rw [List.drop_zero]
  fin_cases t <;> fin_cases s <;>
    (simp only [tally_cons, tally_nil, cell_eq_iff, cell_ne_bar, peer_iff c d]; simp)
theorem pays_ag (d c : Dev nD) (t s : Fin 3) : O₀ d (cell c 3 t s) () = if d = peer c (agAx t s) then cr (agN s) else 0 := by
  unfold O₀ owed pays
  rw [List.drop_zero]
  fin_cases t <;> fin_cases s <;>
    (simp only [tally_cons, tally_nil, cell_eq_iff, cell_ne_bar, peer_iff c d]; simp)

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => pays_bar d c, Finset.sum_add_distrib, Finset.sum_add_distrib,
    Finset.sum_ite_eq' Finset.univ (peer c 2) fun _ => 1, Finset.sum_ite_eq' Finset.univ (peer c 1) fun _ => 1, Finset.sum_ite_eq' Finset.univ (peer c 0) fun _ => 1,
    if_pos (Finset.mem_univ _), if_pos (Finset.mem_univ _), if_pos (Finset.mem_univ _)]
theorem launch_rs (c : Dev nD) (t s : Fin 3) :
    tallyOn (cell c 1 t s) (launchCredit (Pipeline.owing O₀) 0 (cell c 1 t s)) = (tallyAt (cell c 1 t s) () (cr (rsN s)) : CellTallies nD τ sig Unit) := by
  unfold tallyAt; refine congrArg _ (Finsupp.ext fun u => ?_); cases u
  rw [Pipeline.launchCredit_owing, Finsupp.single_eq_same, Finset.sum_congr rfl fun d _ => pays_rs d c t s,
    Finset.sum_ite_eq' Finset.univ (peer c (rsAx t s)) fun _ => cr (rsN s), if_pos (Finset.mem_univ _)]
theorem launch_ag (c : Dev nD) (t s : Fin 3) :
    tallyOn (cell c 3 t s) (launchCredit (Pipeline.owing O₀) 0 (cell c 3 t s)) = (tallyAt (cell c 3 t s) () (cr (agN s)) : CellTallies nD τ sig Unit) := by
  unfold tallyAt; refine congrArg _ (Finsupp.ext fun u => ?_); cases u
  rw [Pipeline.launchCredit_owing, Finsupp.single_eq_same, Finset.sum_congr rfl fun d _ => pays_ag d c t s,
    Finset.sum_ite_eq' Finset.univ (peer c (agAx t s)) fun _ => cr (agN s), if_pos (Finset.mem_univ _)]

theorem osem_injective : Function.Injective osem := by
  rintro ⟨k, t, s⟩ ⟨k', t', s'⟩ h
  obtain ⟨rfl, rfl, rfl⟩ := dsem_inj (SemLoc.dma.inj h)
  rfl

omit [FloatOps F] in
/-- The launch credits a device's barrier by three units and its arrivals each by one transfer. -/
theorem creds (c : Dev nD) :
    (Pipeline.launchCred O₀ c : sProp 𝕄) ⊢ iprop(cred (tallyAt (barCell c) () 3)
      ∗ (each fun t s => cred (tallyAt (cell c 1 t s) () (cr (rsN s)))) ∗ each fun t s => cred (tallyAt (cell c 3 t s) () (cr (agN s)))) := by
  unfold Pipeline.launchCred
  rw [bigSep_univ_at _ (SemLoc.reg barS), launch_bar]
  refine sep_mono_right ?_
  refine (bigSep_subset (t := Finset.univ.map ⟨osem, osem_injective⟩) fun x hx => ?_).trans ?_
  · obtain ⟨y, -, rfl⟩ := Finset.mem_map.mp hx
    exact Finset.mem_erase.mpr ⟨fun h => (by cases h), Finset.mem_univ _⟩
  · rw [bigSep_map]
    refine (Entails.of_eq (fam_eq fun k t s => (cred (tallyOn (cell c k t s) (launchCredit (Pipeline.owing O₀) 0 (cell c k t s))) : sProp 𝕄))).trans ?_
    simp only [launch_rs, launch_ag]
    iintro ⟨-, H1, -, H3⟩
    isplitl [H1] <;> iassumption

/-! ## What a device starts and ends with -/

omit [FloatOps F] in
theorem hand_intro (c : Dev nD) :
    iprop(linear (F := F) c ∗ cred (tallyAt (barCell c) () 3)
      ∗ (each fun t s => cred (tallyAt (cell c 1 t s) () (cr (rsN s)))) ∗ each fun t s => cred (tallyAt (cell c 3 t s) () (cr (agN s))))
      ⊢ hand (F := F) c := by
  have h1 : each (rsCells (F := F) c) = iprop((each fun t s => dutyTok ER (cell c 0 t s) 0 0) ∗ (each fun t s => dutyTok ER (cell (peer c (rsAx t s)) 1 t s) 0 0)
      ∗ (each fun t s => atPos ER (cell c 0 t s) 0 ∅ 0) ∗ (each fun t s => atPos ER (cell c 1 t s) 0 ∅ 0) ∗ each fun t s => cred (tallyAt (cell c 1 t s) () (cr (rsN s)))) := by
    unfold rsCells; rw [each_sep, each_sep, each_sep, each_sep]
  have h2 : each (agCells (F := F) c) = iprop((each fun t s => dutyTok ER (cell c 2 t s) 0 0) ∗ (each fun t s => dutyTok ER (cell (peer c (agAx t s)) 3 t s) 0 0)
      ∗ (each fun t s => atPos ER (cell c 2 t s) 0 ∅ 0) ∗ (each fun t s => atPos ER (cell c 3 t s) 0 ∅ 0) ∗ each fun t s => cred (tallyAt (cell c 3 t s) () (cr (agN s)))) := by
    unfold agCells; rw [each_sep, each_sep, each_sep, each_sep]
  have h3 : (bigSep Finset.univ fun x : Cx => (dutyTok ER (xcell (payer x c, x)) 0 0 : sProp 𝕄))
      = iprop((each fun t s => dutyTok ER (cell c 0 t s) 0 0) ∗ (each fun t s => dutyTok ER (cell (peer c (rsAx t s)) 1 t s) 0 0)
        ∗ (each fun t s => dutyTok ER (cell c 2 t s) 0 0) ∗ each fun t s => dutyTok ER (cell (peer c (agAx t s)) 3 t s) 0 0) :=
    fam_eq fun k t s => (dutyTok ER (xcell (payer (k, t, s) c, k, t, s)) 0 0 : sProp 𝕄)
  unfold linear hand payToks perCell
  rw [h1, h2, h3, fin3, fam_eq fun k t s => (atPos ER (cell c k t s) 0 ∅ 0 : sProp 𝕄)]
  iintro ⟨⟨⟨⟨A0, A1, A2, A3⟩, AB⟩, ⟨T0, T1, T2, T3⟩, TB⟩, CB, C1, C3⟩
  isplitl [TB]; · iexact TB
  isplitl [AB]; · iexact AB
  isplitl [CB]; · iexact CB
  isplitl [T0 T1 A0 A1 C1]
  · isplitl [T0]; · iexact T0
    isplitl [T1]; · iexact T1
    isplitl [A0]; · iexact A0
    isplitl [A1] <;> iassumption
  isplitl [T2]; · iexact T2
  isplitl [T3]; · iexact T3
  isplitl [A2]; · iexact A2
  isplitl [A3] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, #Hlev, Hcr, -, HG⟩
  ihave Hc := (creds (F := F) c) $$ Hcr
  imodintro
  unfold start G'
  icases HG with ⟨⟨%K, %Kb, #HK⟩, HL⟩
  isplitl
  · isplitr
    · iexists K; iexists Kb
      unfold known records
      icases HK with ⟨H1, H2, H3, H4⟩
      isplitr; · iexact H1
      isplitr; · iexact H2
      isplitr; · iexact H3
      isplitr; · iexact H4
      iexact Hlev
    · iapply (hand_intro (F := F) c)
      isplitl [HL] <;> iassumption
  · iempintro

omit [FloatOps F] in
/-- A whole buffer holding anything. -/
theorem bufAny_whole (c : Dev nD) (b : Ref sig .tc) :
    bufAny (F := F) c (Memref.whole b) = iprop(∃ f : Buf (Elt F) ((c : Thread nD τ).loc b), ((c : Thread nD τ).loc b) ↦{fullShare} f) := by
  unfold bufAny
  simp only [owns_whole_eq]
  refine BI.equiv_iff.mp ⟨?_, ?_⟩
  · show iprop(∃ X, ∃ f : Buf (Elt F) ((c : Thread nD τ).loc b), ⌜f = X⌝ ∗ (((c : Thread nD τ).loc b) ↦{fullShare} f)) ⊢ _
    iintro ⟨%X, %f, %h, H⟩
    iexists f; iexact H
  · show _ ⊢ iprop(∃ X, ∃ f : Buf (Elt F) ((c : Thread nD τ).loc b), ⌜f = X⌝ ∗ (((c : Thread nD τ).loc b) ↦{fullShare} f))
    iintro ⟨%f, H⟩
    iexists f; iexists f
    isplitr; · ipureintro; rfl
    iexact H

omit [FloatOps F] in
theorem scr_eq (c : Dev nD) : (Pipeline.scopedRest cfg0.spec c : sProp 𝕄) ⊣⊢ scr (F := F) c := by
  rw [show (Pipeline.scopedRest cfg0.spec c : sProp 𝕄) = _ from scopedRest0_eq c]
  unfold scr
  rw [show bufAny (F := F) c (sbM 0) = _ from bufAny_whole c cc0_scratch0, show bufAny (F := F) c (sbM 1) = _ from bufAny_whole c cc0_scratch1,
    show bufAny (F := F) c (sbM 2) = _ from bufAny_whole c cc0_scratch2, show bufAny (F := F) c (rbM 0) = _ from bufAny_whole c cc0_scratch3,
    show bufAny (F := F) c (rbM 1) = _ from bufAny_whole c cc0_scratch4, show bufAny (F := F) c (rbM 2) = _ from bufAny_whole c cc0_scratch5,
    show bufAny (F := F) c agM = _ from bufAny_whole c cc0_scratch6]
  constructor
  · iintro ⟨H0, H1, H2, H3, H4, H5, H6⟩
    isplitl [H0 H1 H2]
    · isplitl [H0]; · iexact H0
      isplitl [H1] <;> iassumption
    isplitl [H3 H4 H5]
    · isplitl [H3]; · iexact H3
      isplitl [H4] <;> iassumption
    iexact H6
  · iintro ⟨⟨H0, H1, H2⟩, ⟨H3, H4, H5⟩, H6⟩
    isplitl [H0]; · iexact H0
    isplitl [H1]; · iexact H1
    isplitl [H2]; · iexact H2
    isplitl [H3]; · iexact H3
    isplitl [H4]; · iexact H4
    isplitl [H5] <;> iassumption

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scr_eq (F := F) c).1; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, unscopedSems0_eq]
  unfold Φ₁
  iintro ⟨Hr, Hz, HzB⟩
  isplitl [HzB]; · iexact HzB
  isplitl [Hz]
  · iapply (show (bigSep Finset.univ fun x : Cx => (semVal (cell c x.1 x.2.1 x.2.2) 0 : sProp 𝕄)) ⊢ Pipeline.ownSems0 osem c from .rfl); iexact Hz
  iapply (scr_eq (F := F) c).2; iexact Hr

omit [FloatOps F] in
/-- A device may wait for its staging at any time. -/
theorem mayWait_stage (c : Dev nD) (q : DmaSem sig) (hq : lvS (.dma q) = 0) (O : CellTallies nD τ sig Unit) (hO : O = owed c 0 ∨ O = 0) :
    (levAts L lv : sProp 𝕄) ⊢ MayWait (c : Thread nD τ) (.dma q) () O := by
  rcases hO with rfl | rfl
  · exact mayWait c (.dma q) 0 (by rw [hq]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, every fair execution of the program on the eight devices ends, with
    each operand and result array at the contents computed here and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are left as they were. -/
theorem finalA_a (c : Dev nD) : finalA m ρ c (0 : Fin 3) = (s₀ m ρ).mem (win0_0.arr.view.loc (c : Thread nD τ)) :=
  (dats (F := F) m ρ 0 c).arrAt_in (0 : Fin 3) rfl _
theorem finalA_b (c : Dev nD) : finalA m ρ c (1 : Fin 3) = (s₀ m ρ).mem (win0_1.arr.view.loc (c : Thread nD τ)) :=
  (dats (F := F) m ρ 0 c).arrAt_in (1 : Fin 3) rfl _

end Cert.KernelIdealProof
-- ==== Proof.KernelIdeal.Sum.lean ====
/-
  The kernel's result over the extended reals: the eight partial products of a row, summed in the order of
  the three exchanges, are their sum over the devices, and the result is the activation of that sum.
-/
module

public import proofs.«01_k».proof.Proof.KernelIdeal.Values
public import Idealize.ShloMosaic.Lib.MatmulPlain
public import Idealize.ShloMosaic.Lib.ValueIdx
public import Idealize.ShloMosaic.PureOps.Ideal.Laws

@[expose] public section

set_option maxRecDepth 16384

noncomputable section

namespace Cert.KernelIdealProof

open Cert.KernelIdeal Cert.KernelIdeal.Gen Cert.Rows

open Idealize.ShloMosaic Idealize.ShloMosaic.TcCoe

variable (A : Dev nD → Vec Ideal S1536x768 .f32) (B : Dev nD → Vec Ideal S768x1536 .f32)

/-- Device `c`'s partial product, an entry at a time. -/
def part (c : Dev nD) (i : (R 1536).Idx) : EReal := ∑ k : Fin 768, A c (ix2 (i 0) k) * B c (ix2 k (i 1))

/-- The block of the product that the kernel computes at once is those rows of it. -/
theorem prodAt_seg (c : Dev nD) (r : ℕ) (h : r + 256 ≤ 1536) : prodAt A B c r h = seg r 256 h (part A B c) := by
  funext j
  unfold prodAt k0_pay7
  simp only [shapeCast_self]
  refine (congrArg (FloatOps.matmul (DotDims.plain 256 768 1536) none (ablk A c r h) (B c) (constant S256x1536 .f32 0x00000000#32))
    (ValueIdx.eq_ix2 (n0 := 256) (n1 := 1536) j)).trans ?_
  refine (Ideal.matmul_plain_apply (M := 256) (K := 768) (N := 1536) none (ablk A c r h) (B c)
    (constant S256x1536 .f32 0x00000000#32) (j 0) (j 1)).trans ?_
  exact (congrArg (· + _) Ideal.ofBits_zero_f32).trans (zero_add _)

/-- The rows kept at each stage are rows of the array. -/
theorem kl0 (c : Dev nD) (t : Fin 3) : keep c t 0 + 256 ≤ 1536 := keep_le c t 0
theorem kl1 (c : Dev nD) (t : Fin 3) : keep c t 1 + 128 ≤ 1536 := keep_le c t 1
theorem kl2 (c : Dev nD) (t : Fin 3) : keep c t 2 + 64 ≤ 1536 := keep_le c t 2

/-- The sums after the three stages, an entry at a time. -/
def s0 (c : Dev nD) (t : Fin 3) (i : (R 1536).Idx) : EReal := part A B c i + part A B (peer c (rsAx t 0)) i
def s1 (c : Dev nD) (t : Fin 3) (i : (R 1536).Idx) : EReal := s0 A B c t i + s0 A B (peer c (rsAx t 1)) t i
def s2 (c : Dev nD) (t : Fin 3) (i : (R 1536).Idx) : EReal := s1 A B c t i + s1 A B (peer c (rsAx t 2)) t i

theorem pay12_ideal (x : Vec Ideal S256x1536 .f32) (y : FVec Ideal S256x1536 .bf16) : k0_pay12 x (up y) = fun j => x j + y j := by
  unfold k0_pay12
  simp only [shapeCast_self]
  rw [cast_slot]
  rfl

theorem pay18_ideal (x : Vec Ideal S128x1536 .f32) (y : FVec Ideal S128x1536 .bf16) : k0_pay18 x (up y) = fun j => x j + y j := by
  unfold k0_pay18
  simp only [shapeCast_self]
  rw [cast_slot]
  rfl

/-- The activation of one number. -/
def gelu (z : EReal) : EReal :=
  Ideal.ofBits .f32 0x3F000000#32 * z * (Ideal.ofBits .f32 0x3F800000#32 +
    Ideal.tanh (Ideal.ofBits .f32 0x3F4C422A#32 * (z + Ideal.ofBits .f32 0x3D372713#32 * z * z * z)))

theorem pay30_ideal (x : Vec Ideal S64x1536 .f32) (y : FVec Ideal S64x1536 .bf16) : k0_pay30 x (up y) = fun j => gelu (x j + y j) := by
  unfold k0_pay30
  simp only [shapeCast_self]
  rw [cast_slot]
  rfl

/-- After stage 0 a device holds its rows of the sum of two products; -/
theorem z0_eq (c : Dev nD) (t : Fin 3) : z0 A B c t = seg (keep c t 0) 256 (kl0 c t) (s0 A B c t) := by
  have hs : sv0 A B (peer c (rsAx t 0)) t = seg (keep c t 0) 256 (kl0 c t) (part A B (peer c (rsAx t 0))) :=
    (prodAt_seg A B (peer c (rsAx t 0)) (give (peer c (rsAx t 0)) t 0) (give_le _ t 0)).trans (seg_congr (give_peer c t 0) _ _ _)
  have hp : prodAt A B c (keep c t 0) (keep_le c t 0) = seg (keep c t 0) 256 (kl0 c t) (part A B c) := prodAt_seg A B c _ (kl0 c t)
  unfold z0
  rw [pay12_ideal, hs, hp]
  rfl

/-- after stage 1 of four; -/
theorem z1_eq (c : Dev nD) (t : Fin 3) : z1 A B c t = seg (keep c t 1) 128 (kl1 c t) (s1 A B c t) := by
  have hs : sv1 A B (peer c (rsAx t 1)) t = seg (keep c t 1) 128 (kl1 c t) (s0 A B (peer c (rsAx t 1)) t) := by
    refine (congrArg (seg (128 * (1 - kb (peer c (rsAx t 1)) (t + 1))) 128 (le0' _ _)) (z0_eq A B (peer c (rsAx t 1)) t)).trans ?_
    refine (seg_seg (keep (peer c (rsAx t 1)) t 0) (kl0 _ t) _ 128 (le0' _ _) _).trans ?_
    exact seg_congr (give_peer c t 1) _ _ _
  unfold z1
  rw [pay18_ideal, hs, z0_eq]
  refine funext fun j => congrArg (· + _) ?_
  exact congrFun (seg_seg (keep c t 0) (kl0 c t) _ 128 (le0 _ _) (s0 A B c t)) j

/-- and after stage 2 of eight, activated. -/
theorem act_ideal (c : Dev nD) (t : Fin 3) : act A B c t = seg (keep c t 2) 64 (kl2 c t) (fun i => gelu (s2 A B c t i)) := by
  have hs : sv2 A B (peer c (rsAx t 2)) t = seg (keep c t 2) 64 (kl2 c t) (s1 A B (peer c (rsAx t 2)) t) := by
    refine (congrArg (seg (64 * (1 - kb (peer c (rsAx t 2)) (t + 2))) 64 (le1' _ _)) (z1_eq A B (peer c (rsAx t 2)) t)).trans ?_
    refine (seg_seg (keep (peer c (rsAx t 2)) t 1) (kl1 _ t) _ 64 (le1' _ _) _).trans ?_
    exact seg_congr (give_peer c t 2) _ _ _
  unfold act
  rw [pay30_ideal, hs, z1_eq]
  refine funext fun j => congrArg (fun z => gelu (z + _)) ?_
  exact congrFun (seg_seg (keep c t 1) (kl1 c t) _ 64 (le1 _ _) (s1 A B c t)) j

/-- The eight devices the exchanges of a group reach from one of them are all of them. -/
theorem reach (c : Dev nD) (t : Fin 3) :
    (((({c, peer c (rsAx t 0)} : Multiset (Dev nD)) + {peer c (rsAx t 1), peer (peer c (rsAx t 1)) (rsAx t 0)}) +
      ({peer c (rsAx t 2), peer (peer c (rsAx t 2)) (rsAx t 0)} +
        {peer (peer c (rsAx t 2)) (rsAx t 1), peer (peer (peer c (rsAx t 2)) (rsAx t 1)) (rsAx t 0)}))) = (Finset.univ : Finset (Dev nD)).val := by
  revert c t; decide +kernel

/-- So the sum after stage 2 is the sum over the devices. -/
theorem s2_eq (c : Dev nD) (t : Fin 3) (i : (R 1536).Idx) : s2 A B c t i = ∑ d : Dev nD, part A B d i := by
  rw [Finset.sum, ← reach c t]
  simp only [Multiset.map_add, Multiset.sum_add, Multiset.insert_eq_cons, Multiset.map_cons, Multiset.sum_cons,
    Multiset.map_singleton, Multiset.sum_singleton]
  rfl

/-- Every row is some device's: the one its group and its 64 rows name. -/
theorem keep_devOf (q : Fin 24) (t : Fin 3) (h : t.val = q.val / 8) : keep (devOf (bitOf t (64 * q.val))) t 2 = 64 * q.val := by
  revert q t; decide +kernel

/-- The whole result is the activation of the sum of the eight partial products. -/
theorem whole_ideal (i : (R 1536).Idx) : whole A B i = gelu (∑ d : Dev nD, part A B d i) := by
  have hi : (i 0).val < 1536 := (i 0).isLt
  have hk := keep_devOf ⟨(i 0).val / 64, by omega⟩ (grp i) (by show (i 0).val / 512 = (i 0).val / 64 / 8; omega)
  have hb : bitOf (grp i) (64 * ((i 0).val / 64)) = bitOf (grp i) (i 0).val := by
    funext a; unfold bitOf; rw [Nat.mul_div_cancel_left _ (by decide)]
  have hk' : keep (devOf (bitOf (grp i) (i 0).val)) (grp i) 2 = 64 * ((i 0).val / 64) := by rw [← hb]; exact hk
  unfold whole
  rw [act_ideal]
  simp only [s2_eq]
  refine congrArg (fun j => gelu (∑ d : Dev nD, part A B d j)) (funext fun a => Fin.ext ?_)
  match a with
  | ⟨0, _⟩ => show keep (devOf (bitOf (grp i) (i 0).val)) (grp i) 2 + (i 0).val % 64 = (i 0).val; omega
  | ⟨1, _⟩ => rfl

end Cert.KernelIdealProof
-- ==== Proof.Value.lean ====
/-
  The kernel's result is the reference's: every device ends with the activation of the whole product, the
  reference's operands cut into the eight blocks that the devices hold.
-/
module

public import proofs.«01_k».proof.Defs
public import proofs.«01_k».proof.Proof.KernelIdeal.Launch
public import proofs.«01_k».proof.Proof.KernelIdeal.Sum
public import proofs.«01_k».proof.Proof.Gen.ReferenceIdeal.Run
public import Idealize.ShloMosaic.Lib.StackMember
public import Idealize.ShloMosaic.Lib.Layout
public import Idealize.ShloMosaic.Lib.Pipeline.ValueKit.Geometry
public import Idealize.ShloMosaic.Lib.Pointwise.Sums

@[expose] public section

set_option maxRecDepth 16384

noncomputable section

namespace Cert.Agree

open Cert.KernelIdeal Cert.KernelIdeal.Gen Cert.Rows Cert.KernelIdealProof

open Idealize.ShloMosaic Idealize.ShloMosaic.TcCoe Idealize.SL.Sem

/-! ## The kernel's arrays -/

section
variable {F : FTy → Type} [FloatOps F]
variable (m : (ℓ : Loc nD τ sig) → Buf (Elt F) ℓ) (ρ : Dev nD → PrngReg)

/-- What a device stages of an operand is the operand. -/
theorem stgA_eq (c : Dev nD) : stgA m ρ c = m ((c.tc : Thread nD τ).loc main_arg0) := by
  funext j
  refine congrArg (m ((c.tc : Thread nD τ).loc main_arg0)) (funext fun a => Fin.ext ?_)
  match a with
  | ⟨0, _⟩ => exact Nat.zero_add _ |>.trans (Nat.one_mul _)
  | ⟨1, _⟩ => exact Nat.zero_add _ |>.trans (Nat.one_mul _)
theorem stgB_eq (c : Dev nD) : stgB m ρ c = m ((c.tc : Thread nD τ).loc main_arg1) := by
  funext j
  refine congrArg (m ((c.tc : Thread nD τ).loc main_arg1)) (funext fun a => Fin.ext ?_)
  match a with
  | ⟨0, _⟩ => exact Nat.zero_add _ |>.trans (Nat.one_mul _)
  | ⟨1, _⟩ => exact Nat.zero_add _ |>.trans (Nat.one_mul _)

/-- The result array ends at what the body leaves of it. -/
theorem finalA_out (c : Dev nD) : finalA m ρ c (2 : Fin 3) = outV m ρ := by
  refine (dats m ρ 0 c).arrAt_eq_of_after_last (2 : Fin 3) t₀ (by decide +kernel) _ fun j => ?_
  rfl

end

/-! ## The two products -/

variable (X : (⟨2, ![1536, 6144]⟩ : Shape).Idx → EReal) (Y : (⟨2, ![6144, 1536]⟩ : Shape).Idx → EReal)

/-- The columns contracted are cut among the devices: the sum of their partial products of the blocks is the product. -/
theorem product (i : (R 1536).Idx) :
    ∑ d : Dev nD, part (fun c => Layout.block ⟨2, ![1536, 768]⟩ ⟨2, ![1536, 6144]⟩ 1 8 c X)
        (fun c => Layout.block ⟨2, ![768, 1536]⟩ ⟨2, ![6144, 1536]⟩ 0 8 c Y) d i
      = Host.dotGeneral (F := Ideal) (φ₁ := .f32) (φ₂ := .f32) Cert.ReferenceIdeal.dot_S1536x6144_S6144x1536_S1536x1536_1_0_0_1_n_n none X Y i := by
  have h := StackMember.dotGeneral_plain_apply (m := 1536) (k := 6144) (n := 1536) (φ₁ := .f32) (φ₂ := .f32) none X Y (i 0) (i 1)
  have hi : i = ix2 (i 0) (i 1) := ValueIdx.eq_ix2 (n0 := 1536) (n1 := 1536) i
  refine Eq.trans ?_ ((congrArg (Host.dotGeneral (F := Ideal) (φ₁ := .f32) (φ₂ := .f32) (DotDims.plain 1536 6144 1536) none X Y) hi).trans h).symm
  refine Eq.trans ?_ (Fin.sum_univ_tiles 8 768 rfl _).symm
  refine Finset.sum_congr rfl fun d _ => Finset.sum_congr rfl fun k _ => ?_
  refine congrArg₂ (· * ·) (congrArg X (funext fun a => Fin.ext ?_)) (congrArg Y (funext fun a => Fin.ext ?_))
  · match a with
    | ⟨0, _⟩ => rfl
    | ⟨1, _⟩ => rfl
  · match a with
    | ⟨0, _⟩ => rfl
    | ⟨1, _⟩ => rfl

/-- The blocks of the operands, as the devices hold them. -/
abbrev blkA (c : Dev nD) : Vec Ideal S1536x768 .f32 := Layout.block ⟨2, ![1536, 768]⟩ ⟨2, ![1536, 6144]⟩ 1 8 c X
abbrev blkB (c : Dev nD) : Vec Ideal S768x1536 .f32 := Layout.block ⟨2, ![768, 1536]⟩ ⟨2, ![6144, 1536]⟩ 0 8 c Y

/-! ## The two runs -/

/-- From memories where each device holds its blocks of the reference's operands, both programs run, every
    device of the kernel ends holding the reference's result, and the operands of both are unchanged. -/
theorem algebraic : Cert.algebraic_KernelIdeal_ReferenceIdeal := by
  intro m g m' g' _ hin
  have hA : stgA m g = blkA (m' (((0 : Dev Cert.ReferenceIdeal.nD).tc : Thread Cert.ReferenceIdeal.nD Cert.ReferenceIdeal.τ).loc Cert.ReferenceIdeal.main_arg0)) :=
    funext fun c => (stgA_eq m g c).trans (hin c).1
  have hB : stgB m g = blkB (m' (((0 : Dev Cert.ReferenceIdeal.nD).tc : Thread Cert.ReferenceIdeal.nD Cert.ReferenceIdeal.τ).loc Cert.ReferenceIdeal.main_arg1)) :=
    funext fun c => (stgB_eq m g c).trans (hin c).2
  refine ⟨outV m g, (θ_run defs _ _).mono (fun r h c => ⟨?_, ?_, ?_⟩) (run_main m g), (θ_run Cert.ReferenceIdeal.defs _ _).mono (fun r h => ⟨?_, ?_, ?_⟩) (Cert.ReferenceIdeal.Value.run m' g')⟩
  · exact (h.1 c (2 : Fin 3)).trans (finalA_out m g c)
  · exact (h.1 c (0 : Fin 3)).trans (finalA_a m g c)
  · exact (h.1 c (1 : Fin 3)).trans (finalA_b m g c)
  · refine (h 0).1.trans (funext fun i => ?_)
    refine Eq.symm ((show outV m g i = whole (stgA m g) (stgB m g) i from rfl).trans ?_)
    rw [whole_ideal, hA, hB, product]
    rfl
  · exact (h 0).2.1
  · exact (h 0).2.2

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs to the end with its operands unchanged and every counter at zero; -/
theorem frame_k : Cert.quiescent_Kernel := fun m g _ =>
  (θ_run Cert.Kernel.defs _ _).mono (fun _ h => ⟨fun c => ⟨(h.1 c (0 : Fin 3)).trans (Cert.KernelProof.finalA_a m g c),
    (h.1 c (1 : Fin 3)).trans (Cert.KernelProof.finalA_b m g c)⟩, h.2⟩) (Cert.KernelProof.run_main m g)

/-- so does its idealization; -/
theorem frame_ki : Cert.quiescent_KernelIdeal := fun m g _ =>
  (θ_run Cert.KernelIdeal.defs _ _).mono (fun _ h => ⟨fun c => ⟨(h.1 c (0 : Fin 3)).trans (Cert.KernelIdealProof.finalA_a m g c),
    (h.1 c (1 : Fin 3)).trans (Cert.KernelIdealProof.finalA_b m g c)⟩, h.2⟩) (Cert.KernelIdealProof.run_main m g)

/-- and the reference, which has no counter. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts,
  frame_k, frame_ki, frame_ri, trivial, Cert.Agree.algebraic⟩

end Cert.Proof

end
